-- ==== Defs.lean ====
def Pre_Kernel [hPre_perm_0123_Kernel : Cert.Pre_perm_0123_Kernel.Facts] (m : (ℓ : Loc Cert.Kernel.nD Cert.Kernel.τ Cert.Kernel.sig) → Buf (Elt Bits) ℓ) : Prop :=
  ∀ c : Dev Cert.Kernel.nD,
    (Cert.Pre_perm_0123_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_perm_0132_Kernel [hPre_perm_0132_Kernel : Cert.Pre_perm_0132_Kernel.Facts] (m : (ℓ : Loc Cert.Kernel.nD Cert.Kernel.τ Cert.Kernel.sig) → Buf (Elt Bits) ℓ) : Prop :=
  ∀ c : Dev Cert.Kernel.nD,
    (Cert.Pre_perm_0132_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_perm_0213_Kernel [hPre_perm_0213_Kernel : Cert.Pre_perm_0213_Kernel.Facts] (m : (ℓ : Loc Cert.Kernel.nD Cert.Kernel.τ Cert.Kernel.sig) → Buf (Elt Bits) ℓ) : Prop :=
  ∀ c : Dev Cert.Kernel.nD,
    (Cert.Pre_perm_0213_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_perm_0231_Kernel [hPre_perm_0231_Kernel : Cert.Pre_perm_0231_Kernel.Facts] (m : (ℓ : Loc Cert.Kernel.nD Cert.Kernel.τ Cert.Kernel.sig) → Buf (Elt Bits) ℓ) : Prop :=
  ∀ c : Dev Cert.Kernel.nD,
    (Cert.Pre_perm_0231_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_perm_0312_Kernel [hPre_perm_0312_Kernel : Cert.Pre_perm_0312_Kernel.Facts] (m : (ℓ : Loc Cert.Kernel.nD Cert.Kernel.τ Cert.Kernel.sig) → Buf (Elt Bits) ℓ) : Prop :=
  ∀ c : Dev Cert.Kernel.nD,
    (Cert.Pre_perm_0312_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_perm_0321_Kernel [hPre_perm_0321_Kernel : Cert.Pre_perm_0321_Kernel.Facts] (m : (ℓ : Loc Cert.Kernel.nD Cert.Kernel.τ Cert.Kernel.sig) → Buf (Elt Bits) ℓ) : Prop :=
  ∀ c : Dev Cert.Kernel.nD,
    (Cert.Pre_perm_0321_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_perm_1023_Kernel [hPre_perm_1023_Kernel : Cert.Pre_perm_1023_Kernel.Facts] (m : (ℓ : Loc Cert.Kernel.nD Cert.Kernel.τ Cert.Kernel.sig) → Buf (Elt Bits) ℓ) : Prop :=
  ∀ c : Dev Cert.Kernel.nD,
    (Cert.Pre_perm_1023_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_perm_1032_Kernel [hPre_perm_1032_Kernel : Cert.Pre_perm_1032_Kernel.Facts] (m : (ℓ : Loc Cert.Kernel.nD Cert.Kernel.τ Cert.Kernel.sig) → Buf (Elt Bits) ℓ) : Prop :=
  ∀ c : Dev Cert.Kernel.nD,
    (Cert.Pre_perm_1032_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_perm_1203_Kernel [hPre_perm_1203_Kernel : Cert.Pre_perm_1203_Kernel.Facts] (m : (ℓ : Loc Cert.Kernel.nD Cert.Kernel.τ Cert.Kernel.sig) → Buf (Elt Bits) ℓ) : Prop :=
  ∀ c : Dev Cert.Kernel.nD,
    (Cert.Pre_perm_1203_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_perm_1230_Kernel [hPre_perm_1230_Kernel : Cert.Pre_perm_1230_Kernel.Facts] (m : (ℓ : Loc Cert.Kernel.nD Cert.Kernel.τ Cert.Kernel.sig) → Buf (Elt Bits) ℓ) : Prop :=
  ∀ c : Dev Cert.Kernel.nD,
    (Cert.Pre_perm_1230_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_perm_1302_Kernel [hPre_perm_1302_Kernel : Cert.Pre_perm_1302_Kernel.Facts] (m : (ℓ : Loc Cert.Kernel.nD Cert.Kernel.τ Cert.Kernel.sig) → Buf (Elt Bits) ℓ) : Prop :=
  ∀ c : Dev Cert.Kernel.nD,
    (Cert.Pre_perm_1302_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_perm_1320_Kernel [hPre_perm_1320_Kernel : Cert.Pre_perm_1320_Kernel.Facts] (m : (ℓ : Loc Cert.Kernel.nD Cert.Kernel.τ Cert.Kernel.sig) → Buf (Elt Bits) ℓ) : Prop :=
  ∀ c : Dev Cert.Kernel.nD,
    (Cert.Pre_perm_1320_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_perm_2013_Kernel [hPre_perm_2013_Kernel : Cert.Pre_perm_2013_Kernel.Facts] (m : (ℓ : Loc Cert.Kernel.nD Cert.Kernel.τ Cert.Kernel.sig) → Buf (Elt Bits) ℓ) : Prop :=
  ∀ c : Dev Cert.Kernel.nD,
    (Cert.Pre_perm_2013_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_perm_2031_Kernel [hPre_perm_2031_Kernel : Cert.Pre_perm_2031_Kernel.Facts] (m : (ℓ : Loc Cert.Kernel.nD Cert.Kernel.τ Cert.Kernel.sig) → Buf (Elt Bits) ℓ) : Prop :=
  ∀ c : Dev Cert.Kernel.nD,
    (Cert.Pre_perm_2031_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_perm_2103_Kernel [hPre_perm_2103_Kernel : Cert.Pre_perm_2103_Kernel.Facts] (m : (ℓ : Loc Cert.Kernel.nD Cert.Kernel.τ Cert.Kernel.sig) → Buf (Elt Bits) ℓ) : Prop :=
  ∀ c : Dev Cert.Kernel.nD,
    (Cert.Pre_perm_2103_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_perm_2130_Kernel [hPre_perm_2130_Kernel : Cert.Pre_perm_2130_Kernel.Facts] (m : (ℓ : Loc Cert.Kernel.nD Cert.Kernel.τ Cert.Kernel.sig) → Buf (Elt Bits) ℓ) : Prop :=
  ∀ c : Dev Cert.Kernel.nD,
    (Cert.Pre_perm_2130_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_perm_2301_Kernel [hPre_perm_2301_Kernel : Cert.Pre_perm_2301_Kernel.Facts] (m : (ℓ : Loc Cert.Kernel.nD Cert.Kernel.τ Cert.Kernel.sig) → Buf (Elt Bits) ℓ) : Prop :=
  ∀ c : Dev Cert.Kernel.nD,
    (Cert.Pre_perm_2301_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_perm_2310_Kernel [hPre_perm_2310_Kernel : Cert.Pre_perm_2310_Kernel.Facts] (m : (ℓ : Loc Cert.Kernel.nD Cert.Kernel.τ Cert.Kernel.sig) → Buf (Elt Bits) ℓ) : Prop :=
  ∀ c : Dev Cert.Kernel.nD,
    (Cert.Pre_perm_2310_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_perm_3012_Kernel [hPre_perm_3012_Kernel : Cert.Pre_perm_3012_Kernel.Facts] (m : (ℓ : Loc Cert.Kernel.nD Cert.Kernel.τ Cert.Kernel.sig) → Buf (Elt Bits) ℓ) : Prop :=
  ∀ c : Dev Cert.Kernel.nD,
    (Cert.Pre_perm_3012_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_perm_3021_Kernel [hPre_perm_3021_Kernel : Cert.Pre_perm_3021_Kernel.Facts] (m : (ℓ : Loc Cert.Kernel.nD Cert.Kernel.τ Cert.Kernel.sig) → Buf (Elt Bits) ℓ) : Prop :=
  ∀ c : Dev Cert.Kernel.nD,
    (Cert.Pre_perm_3021_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_perm_3102_Kernel [hPre_perm_3102_Kernel : Cert.Pre_perm_3102_Kernel.Facts] (m : (ℓ : Loc Cert.Kernel.nD Cert.Kernel.τ Cert.Kernel.sig) → Buf (Elt Bits) ℓ) : Prop :=
  ∀ c : Dev Cert.Kernel.nD,
    (Cert.Pre_perm_3102_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_perm_3120_Kernel [hPre_perm_3120_Kernel : Cert.Pre_perm_3120_Kernel.Facts] (m : (ℓ : Loc Cert.Kernel.nD Cert.Kernel.τ Cert.Kernel.sig) → Buf (Elt Bits) ℓ) : Prop :=
  ∀ c : Dev Cert.Kernel.nD,
    (Cert.Pre_perm_3120_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_perm_3201_Kernel [hPre_perm_3201_Kernel : Cert.Pre_perm_3201_Kernel.Facts] (m : (ℓ : Loc Cert.Kernel.nD Cert.Kernel.τ Cert.Kernel.sig) → Buf (Elt Bits) ℓ) : Prop :=
  ∀ c : Dev Cert.Kernel.nD,
    (Cert.Pre_perm_3201_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_perm_3210_Kernel [hPre_perm_3210_Kernel : Cert.Pre_perm_3210_Kernel.Facts] (m : (ℓ : Loc Cert.Kernel.nD Cert.Kernel.τ Cert.Kernel.sig) → Buf (Elt Bits) ℓ) : Prop :=
  ∀ c : Dev Cert.Kernel.nD,
    (Cert.Pre_perm_3210_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_perm_0123_Kernel : Cert.Pre_perm_0123_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_perm_0123_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_perm_0132_Kernel [hPre_perm_0132_Kernel : Cert.Pre_perm_0132_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_perm_0132_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_perm_0213_Kernel [hPre_perm_0213_Kernel : Cert.Pre_perm_0213_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_perm_0213_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_perm_0231_Kernel [hPre_perm_0231_Kernel : Cert.Pre_perm_0231_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_perm_0231_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_perm_0312_Kernel [hPre_perm_0312_Kernel : Cert.Pre_perm_0312_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_perm_0312_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_perm_0321_Kernel [hPre_perm_0321_Kernel : Cert.Pre_perm_0321_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_perm_0321_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_perm_1023_Kernel [hPre_perm_1023_Kernel : Cert.Pre_perm_1023_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_perm_1023_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_perm_1032_Kernel [hPre_perm_1032_Kernel : Cert.Pre_perm_1032_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_perm_1032_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_perm_1203_Kernel [hPre_perm_1203_Kernel : Cert.Pre_perm_1203_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_perm_1203_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_perm_1230_Kernel [hPre_perm_1230_Kernel : Cert.Pre_perm_1230_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_perm_1230_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_perm_1302_Kernel [hPre_perm_1302_Kernel : Cert.Pre_perm_1302_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_perm_1302_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_perm_1320_Kernel [hPre_perm_1320_Kernel : Cert.Pre_perm_1320_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_perm_1320_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_perm_2013_Kernel [hPre_perm_2013_Kernel : Cert.Pre_perm_2013_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_perm_2013_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_perm_2031_Kernel [hPre_perm_2031_Kernel : Cert.Pre_perm_2031_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_perm_2031_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_perm_2103_Kernel [hPre_perm_2103_Kernel : Cert.Pre_perm_2103_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_perm_2103_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_perm_2130_Kernel [hPre_perm_2130_Kernel : Cert.Pre_perm_2130_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_perm_2130_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_perm_2301_Kernel [hPre_perm_2301_Kernel : Cert.Pre_perm_2301_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_perm_2301_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_perm_2310_Kernel [hPre_perm_2310_Kernel : Cert.Pre_perm_2310_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_perm_2310_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_perm_3012_Kernel [hPre_perm_3012_Kernel : Cert.Pre_perm_3012_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_perm_3012_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_perm_3021_Kernel [hPre_perm_3021_Kernel : Cert.Pre_perm_3021_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_perm_3021_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_perm_3102_Kernel [hPre_perm_3102_Kernel : Cert.Pre_perm_3102_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_perm_3102_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_perm_3120_Kernel [hPre_perm_3120_Kernel : Cert.Pre_perm_3120_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_perm_3120_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_perm_3201_Kernel [hPre_perm_3201_Kernel : Cert.Pre_perm_3201_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_perm_3201_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_perm_3210_Kernel [hPre_perm_3210_Kernel : Cert.Pre_perm_3210_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_perm_3210_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_perm_0123_ReferenceIdeal [hPre_perm_0123_ReferenceIdeal : Cert.Pre_perm_0123_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_0123_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_perm_0132_ReferenceIdeal [hPre_perm_0132_ReferenceIdeal : Cert.Pre_perm_0132_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_0132_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_perm_0213_ReferenceIdeal [hPre_perm_0213_ReferenceIdeal : Cert.Pre_perm_0213_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_0213_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_perm_0231_ReferenceIdeal [hPre_perm_0231_ReferenceIdeal : Cert.Pre_perm_0231_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_0231_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_perm_0312_ReferenceIdeal [hPre_perm_0312_ReferenceIdeal : Cert.Pre_perm_0312_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_0312_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_perm_0321_ReferenceIdeal [hPre_perm_0321_ReferenceIdeal : Cert.Pre_perm_0321_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_0321_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_perm_1023_ReferenceIdeal [hPre_perm_1023_ReferenceIdeal : Cert.Pre_perm_1023_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_1023_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_perm_1032_ReferenceIdeal [hPre_perm_1032_ReferenceIdeal : Cert.Pre_perm_1032_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_1032_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_perm_1203_ReferenceIdeal [hPre_perm_1203_ReferenceIdeal : Cert.Pre_perm_1203_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_1203_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_perm_1230_ReferenceIdeal [hPre_perm_1230_ReferenceIdeal : Cert.Pre_perm_1230_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_1230_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_perm_1302_ReferenceIdeal [hPre_perm_1302_ReferenceIdeal : Cert.Pre_perm_1302_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_1302_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_perm_1320_ReferenceIdeal [hPre_perm_1320_ReferenceIdeal : Cert.Pre_perm_1320_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_1320_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_perm_2013_ReferenceIdeal [hPre_perm_2013_ReferenceIdeal : Cert.Pre_perm_2013_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_2013_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_perm_2031_ReferenceIdeal [hPre_perm_2031_ReferenceIdeal : Cert.Pre_perm_2031_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_2031_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_perm_2103_ReferenceIdeal [hPre_perm_2103_ReferenceIdeal : Cert.Pre_perm_2103_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_2103_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_perm_2130_ReferenceIdeal [hPre_perm_2130_ReferenceIdeal : Cert.Pre_perm_2130_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_2130_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_perm_2301_ReferenceIdeal [hPre_perm_2301_ReferenceIdeal : Cert.Pre_perm_2301_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_2301_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_perm_2310_ReferenceIdeal [hPre_perm_2310_ReferenceIdeal : Cert.Pre_perm_2310_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_2310_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_perm_3012_ReferenceIdeal [hPre_perm_3012_ReferenceIdeal : Cert.Pre_perm_3012_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_3012_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_perm_3021_ReferenceIdeal [hPre_perm_3021_ReferenceIdeal : Cert.Pre_perm_3021_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_3021_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_perm_3102_ReferenceIdeal [hPre_perm_3102_ReferenceIdeal : Cert.Pre_perm_3102_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_3102_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_perm_3120_ReferenceIdeal [hPre_perm_3120_ReferenceIdeal : Cert.Pre_perm_3120_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_3120_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_perm_3201_ReferenceIdeal [hPre_perm_3201_ReferenceIdeal : Cert.Pre_perm_3201_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_3201_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_perm_3210_ReferenceIdeal [hPre_perm_3210_ReferenceIdeal : Cert.Pre_perm_3210_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_3210_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_perm_0123_Kernel : Cert.Pre_perm_0123_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_perm_0132_Kernel [hKernel : Cert.Kernel.Facts] [hPre_perm_0132_Kernel : Cert.Pre_perm_0132_Kernel.Facts] : Prop :=
  ∀ (m : (ℓ : Loc Cert.Kernel.nD Cert.Kernel.τ Cert.Kernel.sig) → Buf (Elt Bits) ℓ) (g : Dev Cert.Kernel.nD → PrngReg), Pre_Kernel_perm_0132_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_perm_0213_Kernel [hKernel : Cert.Kernel.Facts] [hPre_perm_0213_Kernel : Cert.Pre_perm_0213_Kernel.Facts] : Prop :=
  ∀ (m : (ℓ : Loc Cert.Kernel.nD Cert.Kernel.τ Cert.Kernel.sig) → Buf (Elt Bits) ℓ) (g : Dev Cert.Kernel.nD → PrngReg), Pre_Kernel_perm_0213_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_perm_0231_Kernel [hKernel : Cert.Kernel.Facts] [hPre_perm_0231_Kernel : Cert.Pre_perm_0231_Kernel.Facts] : Prop :=
  ∀ (m : (ℓ : Loc Cert.Kernel.nD Cert.Kernel.τ Cert.Kernel.sig) → Buf (Elt Bits) ℓ) (g : Dev Cert.Kernel.nD → PrngReg), Pre_Kernel_perm_0231_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_perm_0312_Kernel [hKernel : Cert.Kernel.Facts] [hPre_perm_0312_Kernel : Cert.Pre_perm_0312_Kernel.Facts] : Prop :=
  ∀ (m : (ℓ : Loc Cert.Kernel.nD Cert.Kernel.τ Cert.Kernel.sig) → Buf (Elt Bits) ℓ) (g : Dev Cert.Kernel.nD → PrngReg), Pre_Kernel_perm_0312_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_perm_0321_Kernel [hKernel : Cert.Kernel.Facts] [hPre_perm_0321_Kernel : Cert.Pre_perm_0321_Kernel.Facts] : Prop :=
  ∀ (m : (ℓ : Loc Cert.Kernel.nD Cert.Kernel.τ Cert.Kernel.sig) → Buf (Elt Bits) ℓ) (g : Dev Cert.Kernel.nD → PrngReg), Pre_Kernel_perm_0321_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_perm_1023_Kernel [hKernel : Cert.Kernel.Facts] [hPre_perm_1023_Kernel : Cert.Pre_perm_1023_Kernel.Facts] : Prop :=
  ∀ (m : (ℓ : Loc Cert.Kernel.nD Cert.Kernel.τ Cert.Kernel.sig) → Buf (Elt Bits) ℓ) (g : Dev Cert.Kernel.nD → PrngReg), Pre_Kernel_perm_1023_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_perm_1032_Kernel [hKernel : Cert.Kernel.Facts] [hPre_perm_1032_Kernel : Cert.Pre_perm_1032_Kernel.Facts] : Prop :=
  ∀ (m : (ℓ : Loc Cert.Kernel.nD Cert.Kernel.τ Cert.Kernel.sig) → Buf (Elt Bits) ℓ) (g : Dev Cert.Kernel.nD → PrngReg), Pre_Kernel_perm_1032_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_perm_1203_Kernel [hKernel : Cert.Kernel.Facts] [hPre_perm_1203_Kernel : Cert.Pre_perm_1203_Kernel.Facts] : Prop :=
  ∀ (m : (ℓ : Loc Cert.Kernel.nD Cert.Kernel.τ Cert.Kernel.sig) → Buf (Elt Bits) ℓ) (g : Dev Cert.Kernel.nD → PrngReg), Pre_Kernel_perm_1203_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_perm_1230_Kernel [hKernel : Cert.Kernel.Facts] [hPre_perm_1230_Kernel : Cert.Pre_perm_1230_Kernel.Facts] : Prop :=
  ∀ (m : (ℓ : Loc Cert.Kernel.nD Cert.Kernel.τ Cert.Kernel.sig) → Buf (Elt Bits) ℓ) (g : Dev Cert.Kernel.nD → PrngReg), Pre_Kernel_perm_1230_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_perm_1302_Kernel [hKernel : Cert.Kernel.Facts] [hPre_perm_1302_Kernel : Cert.Pre_perm_1302_Kernel.Facts] : Prop :=
  ∀ (m : (ℓ : Loc Cert.Kernel.nD Cert.Kernel.τ Cert.Kernel.sig) → Buf (Elt Bits) ℓ) (g : Dev Cert.Kernel.nD → PrngReg), Pre_Kernel_perm_1302_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_perm_1320_Kernel [hKernel : Cert.Kernel.Facts] [hPre_perm_1320_Kernel : Cert.Pre_perm_1320_Kernel.Facts] : Prop :=
  ∀ (m : (ℓ : Loc Cert.Kernel.nD Cert.Kernel.τ Cert.Kernel.sig) → Buf (Elt Bits) ℓ) (g : Dev Cert.Kernel.nD → PrngReg), Pre_Kernel_perm_1320_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_perm_2013_Kernel [hKernel : Cert.Kernel.Facts] [hPre_perm_2013_Kernel : Cert.Pre_perm_2013_Kernel.Facts] : Prop :=
  ∀ (m : (ℓ : Loc Cert.Kernel.nD Cert.Kernel.τ Cert.Kernel.sig) → Buf (Elt Bits) ℓ) (g : Dev Cert.Kernel.nD → PrngReg), Pre_Kernel_perm_2013_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_perm_2031_Kernel [hKernel : Cert.Kernel.Facts] [hPre_perm_2031_Kernel : Cert.Pre_perm_2031_Kernel.Facts] : Prop :=
  ∀ (m : (ℓ : Loc Cert.Kernel.nD Cert.Kernel.τ Cert.Kernel.sig) → Buf (Elt Bits) ℓ) (g : Dev Cert.Kernel.nD → PrngReg), Pre_Kernel_perm_2031_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_perm_2103_Kernel [hKernel : Cert.Kernel.Facts] [hPre_perm_2103_Kernel : Cert.Pre_perm_2103_Kernel.Facts] : Prop :=
  ∀ (m : (ℓ : Loc Cert.Kernel.nD Cert.Kernel.τ Cert.Kernel.sig) → Buf (Elt Bits) ℓ) (g : Dev Cert.Kernel.nD → PrngReg), Pre_Kernel_perm_2103_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_perm_2130_Kernel [hKernel : Cert.Kernel.Facts] [hPre_perm_2130_Kernel : Cert.Pre_perm_2130_Kernel.Facts] : Prop :=
  ∀ (m : (ℓ : Loc Cert.Kernel.nD Cert.Kernel.τ Cert.Kernel.sig) → Buf (Elt Bits) ℓ) (g : Dev Cert.Kernel.nD → PrngReg), Pre_Kernel_perm_2130_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_perm_2301_Kernel [hKernel : Cert.Kernel.Facts] [hPre_perm_2301_Kernel : Cert.Pre_perm_2301_Kernel.Facts] : Prop :=
  ∀ (m : (ℓ : Loc Cert.Kernel.nD Cert.Kernel.τ Cert.Kernel.sig) → Buf (Elt Bits) ℓ) (g : Dev Cert.Kernel.nD → PrngReg), Pre_Kernel_perm_2301_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_perm_2310_Kernel [hKernel : Cert.Kernel.Facts] [hPre_perm_2310_Kernel : Cert.Pre_perm_2310_Kernel.Facts] : Prop :=
  ∀ (m : (ℓ : Loc Cert.Kernel.nD Cert.Kernel.τ Cert.Kernel.sig) → Buf (Elt Bits) ℓ) (g : Dev Cert.Kernel.nD → PrngReg), Pre_Kernel_perm_2310_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_perm_3012_Kernel [hKernel : Cert.Kernel.Facts] [hPre_perm_3012_Kernel : Cert.Pre_perm_3012_Kernel.Facts] : Prop :=
  ∀ (m : (ℓ : Loc Cert.Kernel.nD Cert.Kernel.τ Cert.Kernel.sig) → Buf (Elt Bits) ℓ) (g : Dev Cert.Kernel.nD → PrngReg), Pre_Kernel_perm_3012_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_perm_3021_Kernel [hKernel : Cert.Kernel.Facts] [hPre_perm_3021_Kernel : Cert.Pre_perm_3021_Kernel.Facts] : Prop :=
  ∀ (m : (ℓ : Loc Cert.Kernel.nD Cert.Kernel.τ Cert.Kernel.sig) → Buf (Elt Bits) ℓ) (g : Dev Cert.Kernel.nD → PrngReg), Pre_Kernel_perm_3021_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_perm_3102_Kernel [hKernel : Cert.Kernel.Facts] [hPre_perm_3102_Kernel : Cert.Pre_perm_3102_Kernel.Facts] : Prop :=
  ∀ (m : (ℓ : Loc Cert.Kernel.nD Cert.Kernel.τ Cert.Kernel.sig) → Buf (Elt Bits) ℓ) (g : Dev Cert.Kernel.nD → PrngReg), Pre_Kernel_perm_3102_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_perm_3120_Kernel [hKernel : Cert.Kernel.Facts] [hPre_perm_3120_Kernel : Cert.Pre_perm_3120_Kernel.Facts] : Prop :=
  ∀ (m : (ℓ : Loc Cert.Kernel.nD Cert.Kernel.τ Cert.Kernel.sig) → Buf (Elt Bits) ℓ) (g : Dev Cert.Kernel.nD → PrngReg), Pre_Kernel_perm_3120_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_perm_3201_Kernel [hKernel : Cert.Kernel.Facts] [hPre_perm_3201_Kernel : Cert.Pre_perm_3201_Kernel.Facts] : Prop :=
  ∀ (m : (ℓ : Loc Cert.Kernel.nD Cert.Kernel.τ Cert.Kernel.sig) → Buf (Elt Bits) ℓ) (g : Dev Cert.Kernel.nD → PrngReg), Pre_Kernel_perm_3201_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_perm_3210_Kernel [hKernel : Cert.Kernel.Facts] [hPre_perm_3210_Kernel : Cert.Pre_perm_3210_Kernel.Facts] : Prop :=
  ∀ (m : (ℓ : Loc Cert.Kernel.nD Cert.Kernel.τ Cert.Kernel.sig) → Buf (Elt Bits) ℓ) (g : Dev Cert.Kernel.nD → PrngReg), Pre_Kernel_perm_3210_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_perm_0123_Kernel : Cert.Pre_perm_0123_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_perm_0132_Kernel [hKernelIdeal : Cert.KernelIdeal.Facts] [hPre_perm_0132_Kernel : Cert.Pre_perm_0132_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_0132_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_perm_0213_Kernel [hKernelIdeal : Cert.KernelIdeal.Facts] [hPre_perm_0213_Kernel : Cert.Pre_perm_0213_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_0213_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_perm_0231_Kernel [hKernelIdeal : Cert.KernelIdeal.Facts] [hPre_perm_0231_Kernel : Cert.Pre_perm_0231_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_0231_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_perm_0312_Kernel [hKernelIdeal : Cert.KernelIdeal.Facts] [hPre_perm_0312_Kernel : Cert.Pre_perm_0312_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_0312_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_perm_0321_Kernel [hKernelIdeal : Cert.KernelIdeal.Facts] [hPre_perm_0321_Kernel : Cert.Pre_perm_0321_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_0321_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_perm_1023_Kernel [hKernelIdeal : Cert.KernelIdeal.Facts] [hPre_perm_1023_Kernel : Cert.Pre_perm_1023_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_1023_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_perm_1032_Kernel [hKernelIdeal : Cert.KernelIdeal.Facts] [hPre_perm_1032_Kernel : Cert.Pre_perm_1032_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_1032_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_perm_1203_Kernel [hKernelIdeal : Cert.KernelIdeal.Facts] [hPre_perm_1203_Kernel : Cert.Pre_perm_1203_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_1203_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_perm_1230_Kernel [hKernelIdeal : Cert.KernelIdeal.Facts] [hPre_perm_1230_Kernel : Cert.Pre_perm_1230_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_1230_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_perm_1302_Kernel [hKernelIdeal : Cert.KernelIdeal.Facts] [hPre_perm_1302_Kernel : Cert.Pre_perm_1302_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_1302_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_perm_1320_Kernel [hKernelIdeal : Cert.KernelIdeal.Facts] [hPre_perm_1320_Kernel : Cert.Pre_perm_1320_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_1320_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_perm_2013_Kernel [hKernelIdeal : Cert.KernelIdeal.Facts] [hPre_perm_2013_Kernel : Cert.Pre_perm_2013_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_2013_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_perm_2031_Kernel [hKernelIdeal : Cert.KernelIdeal.Facts] [hPre_perm_2031_Kernel : Cert.Pre_perm_2031_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_2031_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_perm_2103_Kernel [hKernelIdeal : Cert.KernelIdeal.Facts] [hPre_perm_2103_Kernel : Cert.Pre_perm_2103_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_2103_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_perm_2130_Kernel [hKernelIdeal : Cert.KernelIdeal.Facts] [hPre_perm_2130_Kernel : Cert.Pre_perm_2130_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_2130_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_perm_2301_Kernel [hKernelIdeal : Cert.KernelIdeal.Facts] [hPre_perm_2301_Kernel : Cert.Pre_perm_2301_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_2301_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_perm_2310_Kernel [hKernelIdeal : Cert.KernelIdeal.Facts] [hPre_perm_2310_Kernel : Cert.Pre_perm_2310_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_2310_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_perm_3012_Kernel [hKernelIdeal : Cert.KernelIdeal.Facts] [hPre_perm_3012_Kernel : Cert.Pre_perm_3012_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_3012_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_perm_3021_Kernel [hKernelIdeal : Cert.KernelIdeal.Facts] [hPre_perm_3021_Kernel : Cert.Pre_perm_3021_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_3021_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_perm_3102_Kernel [hKernelIdeal : Cert.KernelIdeal.Facts] [hPre_perm_3102_Kernel : Cert.Pre_perm_3102_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_3102_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_perm_3120_Kernel [hKernelIdeal : Cert.KernelIdeal.Facts] [hPre_perm_3120_Kernel : Cert.Pre_perm_3120_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_3120_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_perm_3201_Kernel [hKernelIdeal : Cert.KernelIdeal.Facts] [hPre_perm_3201_Kernel : Cert.Pre_perm_3201_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_3201_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_perm_3210_Kernel [hKernelIdeal : Cert.KernelIdeal.Facts] [hPre_perm_3210_Kernel : Cert.Pre_perm_3210_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_3210_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_0123_ReferenceIdeal [hReferenceIdeal : Cert.ReferenceIdeal.Facts] [hPre_perm_0123_ReferenceIdeal : Cert.Pre_perm_0123_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_0123_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_0132_ReferenceIdeal [hReferenceIdeal : Cert.ReferenceIdeal.Facts] [hPre_perm_0132_ReferenceIdeal : Cert.Pre_perm_0132_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_0132_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_0213_ReferenceIdeal [hReferenceIdeal : Cert.ReferenceIdeal.Facts] [hPre_perm_0213_ReferenceIdeal : Cert.Pre_perm_0213_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_0213_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_0231_ReferenceIdeal [hReferenceIdeal : Cert.ReferenceIdeal.Facts] [hPre_perm_0231_ReferenceIdeal : Cert.Pre_perm_0231_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_0231_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_0312_ReferenceIdeal [hReferenceIdeal : Cert.ReferenceIdeal.Facts] [hPre_perm_0312_ReferenceIdeal : Cert.Pre_perm_0312_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_0312_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_0321_ReferenceIdeal [hReferenceIdeal : Cert.ReferenceIdeal.Facts] [hPre_perm_0321_ReferenceIdeal : Cert.Pre_perm_0321_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_0321_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_1023_ReferenceIdeal [hReferenceIdeal : Cert.ReferenceIdeal.Facts] [hPre_perm_1023_ReferenceIdeal : Cert.Pre_perm_1023_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_1023_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_1032_ReferenceIdeal [hReferenceIdeal : Cert.ReferenceIdeal.Facts] [hPre_perm_1032_ReferenceIdeal : Cert.Pre_perm_1032_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_1032_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_1203_ReferenceIdeal [hReferenceIdeal : Cert.ReferenceIdeal.Facts] [hPre_perm_1203_ReferenceIdeal : Cert.Pre_perm_1203_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_1203_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_1230_ReferenceIdeal [hReferenceIdeal : Cert.ReferenceIdeal.Facts] [hPre_perm_1230_ReferenceIdeal : Cert.Pre_perm_1230_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_1230_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_1302_ReferenceIdeal [hReferenceIdeal : Cert.ReferenceIdeal.Facts] [hPre_perm_1302_ReferenceIdeal : Cert.Pre_perm_1302_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_1302_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_1320_ReferenceIdeal [hReferenceIdeal : Cert.ReferenceIdeal.Facts] [hPre_perm_1320_ReferenceIdeal : Cert.Pre_perm_1320_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_1320_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_2013_ReferenceIdeal [hReferenceIdeal : Cert.ReferenceIdeal.Facts] [hPre_perm_2013_ReferenceIdeal : Cert.Pre_perm_2013_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_2013_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_2031_ReferenceIdeal [hReferenceIdeal : Cert.ReferenceIdeal.Facts] [hPre_perm_2031_ReferenceIdeal : Cert.Pre_perm_2031_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_2031_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_2103_ReferenceIdeal [hReferenceIdeal : Cert.ReferenceIdeal.Facts] [hPre_perm_2103_ReferenceIdeal : Cert.Pre_perm_2103_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_2103_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_2130_ReferenceIdeal [hReferenceIdeal : Cert.ReferenceIdeal.Facts] [hPre_perm_2130_ReferenceIdeal : Cert.Pre_perm_2130_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_2130_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_2301_ReferenceIdeal [hReferenceIdeal : Cert.ReferenceIdeal.Facts] [hPre_perm_2301_ReferenceIdeal : Cert.Pre_perm_2301_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_2301_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_2310_ReferenceIdeal [hReferenceIdeal : Cert.ReferenceIdeal.Facts] [hPre_perm_2310_ReferenceIdeal : Cert.Pre_perm_2310_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_2310_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_3012_ReferenceIdeal [hReferenceIdeal : Cert.ReferenceIdeal.Facts] [hPre_perm_3012_ReferenceIdeal : Cert.Pre_perm_3012_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_3012_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_3021_ReferenceIdeal [hReferenceIdeal : Cert.ReferenceIdeal.Facts] [hPre_perm_3021_ReferenceIdeal : Cert.Pre_perm_3021_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_3021_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_3102_ReferenceIdeal [hReferenceIdeal : Cert.ReferenceIdeal.Facts] [hPre_perm_3102_ReferenceIdeal : Cert.Pre_perm_3102_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_3102_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_3120_ReferenceIdeal [hReferenceIdeal : Cert.ReferenceIdeal.Facts] [hPre_perm_3120_ReferenceIdeal : Cert.Pre_perm_3120_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_3120_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_3201_ReferenceIdeal [hReferenceIdeal : Cert.ReferenceIdeal.Facts] [hPre_perm_3201_ReferenceIdeal : Cert.Pre_perm_3201_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_3201_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_3210_ReferenceIdeal [hReferenceIdeal : Cert.ReferenceIdeal.Facts] [hPre_perm_3210_ReferenceIdeal : Cert.Pre_perm_3210_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_3210_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_perm_0123_Kernel : Cert.Pre_perm_0123_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![4, 256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_perm_0132_Kernel [hKernelIdeal : Cert.KernelIdeal.Facts] [hReferenceIdeal : Cert.ReferenceIdeal.Facts] [hPre_perm_0132_Kernel : Cert.Pre_perm_0132_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_0132_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![4, 256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_perm_0213_Kernel [hKernelIdeal : Cert.KernelIdeal.Facts] [hReferenceIdeal : Cert.ReferenceIdeal.Facts] [hPre_perm_0213_Kernel : Cert.Pre_perm_0213_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_0213_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![4, 256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_perm_0231_Kernel [hKernelIdeal : Cert.KernelIdeal.Facts] [hReferenceIdeal : Cert.ReferenceIdeal.Facts] [hPre_perm_0231_Kernel : Cert.Pre_perm_0231_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_0231_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![4, 256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_perm_0312_Kernel [hKernelIdeal : Cert.KernelIdeal.Facts] [hReferenceIdeal : Cert.ReferenceIdeal.Facts] [hPre_perm_0312_Kernel : Cert.Pre_perm_0312_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_0312_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![4, 256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_perm_0321_Kernel [hKernelIdeal : Cert.KernelIdeal.Facts] [hReferenceIdeal : Cert.ReferenceIdeal.Facts] [hPre_perm_0321_Kernel : Cert.Pre_perm_0321_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_0321_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![4, 256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_perm_1023_Kernel [hKernelIdeal : Cert.KernelIdeal.Facts] [hReferenceIdeal : Cert.ReferenceIdeal.Facts] [hPre_perm_1023_Kernel : Cert.Pre_perm_1023_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_1023_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![4, 256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_perm_1032_Kernel [hKernelIdeal : Cert.KernelIdeal.Facts] [hReferenceIdeal : Cert.ReferenceIdeal.Facts] [hPre_perm_1032_Kernel : Cert.Pre_perm_1032_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_1032_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![4, 256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_perm_1203_Kernel [hKernelIdeal : Cert.KernelIdeal.Facts] [hReferenceIdeal : Cert.ReferenceIdeal.Facts] [hPre_perm_1203_Kernel : Cert.Pre_perm_1203_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_1203_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![4, 256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_perm_1230_Kernel [hKernelIdeal : Cert.KernelIdeal.Facts] [hReferenceIdeal : Cert.ReferenceIdeal.Facts] [hPre_perm_1230_Kernel : Cert.Pre_perm_1230_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_1230_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![4, 256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_perm_1302_Kernel [hKernelIdeal : Cert.KernelIdeal.Facts] [hReferenceIdeal : Cert.ReferenceIdeal.Facts] [hPre_perm_1302_Kernel : Cert.Pre_perm_1302_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_1302_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![4, 256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_perm_1320_Kernel [hKernelIdeal : Cert.KernelIdeal.Facts] [hReferenceIdeal : Cert.ReferenceIdeal.Facts] [hPre_perm_1320_Kernel : Cert.Pre_perm_1320_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_1320_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![4, 256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_perm_2013_Kernel [hKernelIdeal : Cert.KernelIdeal.Facts] [hReferenceIdeal : Cert.ReferenceIdeal.Facts] [hPre_perm_2013_Kernel : Cert.Pre_perm_2013_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_2013_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![4, 256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_perm_2031_Kernel [hKernelIdeal : Cert.KernelIdeal.Facts] [hReferenceIdeal : Cert.ReferenceIdeal.Facts] [hPre_perm_2031_Kernel : Cert.Pre_perm_2031_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_2031_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![4, 256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_perm_2103_Kernel [hKernelIdeal : Cert.KernelIdeal.Facts] [hReferenceIdeal : Cert.ReferenceIdeal.Facts] [hPre_perm_2103_Kernel : Cert.Pre_perm_2103_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_2103_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![4, 256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_perm_2130_Kernel [hKernelIdeal : Cert.KernelIdeal.Facts] [hReferenceIdeal : Cert.ReferenceIdeal.Facts] [hPre_perm_2130_Kernel : Cert.Pre_perm_2130_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_2130_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![4, 256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_perm_2301_Kernel [hKernelIdeal : Cert.KernelIdeal.Facts] [hReferenceIdeal : Cert.ReferenceIdeal.Facts] [hPre_perm_2301_Kernel : Cert.Pre_perm_2301_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_2301_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![4, 256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_perm_2310_Kernel [hKernelIdeal : Cert.KernelIdeal.Facts] [hReferenceIdeal : Cert.ReferenceIdeal.Facts] [hPre_perm_2310_Kernel : Cert.Pre_perm_2310_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_2310_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![4, 256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_perm_3012_Kernel [hKernelIdeal : Cert.KernelIdeal.Facts] [hReferenceIdeal : Cert.ReferenceIdeal.Facts] [hPre_perm_3012_Kernel : Cert.Pre_perm_3012_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_3012_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![4, 256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_perm_3021_Kernel [hKernelIdeal : Cert.KernelIdeal.Facts] [hReferenceIdeal : Cert.ReferenceIdeal.Facts] [hPre_perm_3021_Kernel : Cert.Pre_perm_3021_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_3021_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![4, 256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_perm_3102_Kernel [hKernelIdeal : Cert.KernelIdeal.Facts] [hReferenceIdeal : Cert.ReferenceIdeal.Facts] [hPre_perm_3102_Kernel : Cert.Pre_perm_3102_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_3102_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![4, 256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_perm_3120_Kernel [hKernelIdeal : Cert.KernelIdeal.Facts] [hReferenceIdeal : Cert.ReferenceIdeal.Facts] [hPre_perm_3120_Kernel : Cert.Pre_perm_3120_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_3120_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![4, 256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_perm_3201_Kernel [hKernelIdeal : Cert.KernelIdeal.Facts] [hReferenceIdeal : Cert.ReferenceIdeal.Facts] [hPre_perm_3201_Kernel : Cert.Pre_perm_3201_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_3201_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![4, 256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_perm_3210_Kernel [hKernelIdeal : Cert.KernelIdeal.Facts] [hReferenceIdeal : Cert.ReferenceIdeal.Facts] [hPre_perm_3210_Kernel : Cert.Pre_perm_3210_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_3210_Kernel m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 256]⟩ ⟨3, ![4, 256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_perm_0123_Kernel : Cert.Pre_perm_0123_Kernel.Facts) (hPre_perm_0132_Kernel : Cert.Pre_perm_0132_Kernel.Facts) (hPre_perm_0213_Kernel : Cert.Pre_perm_0213_Kernel.Facts) (hPre_perm_0231_Kernel : Cert.Pre_perm_0231_Kernel.Facts) (hPre_perm_0312_Kernel : Cert.Pre_perm_0312_Kernel.Facts) (hPre_perm_0321_Kernel : Cert.Pre_perm_0321_Kernel.Facts) (hPre_perm_1023_Kernel : Cert.Pre_perm_1023_Kernel.Facts) (hPre_perm_1032_Kernel : Cert.Pre_perm_1032_Kernel.Facts) (hPre_perm_1203_Kernel : Cert.Pre_perm_1203_Kernel.Facts) (hPre_perm_1230_Kernel : Cert.Pre_perm_1230_Kernel.Facts) (hPre_perm_1302_Kernel : Cert.Pre_perm_1302_Kernel.Facts) (hPre_perm_1320_Kernel : Cert.Pre_perm_1320_Kernel.Facts) (hPre_perm_2013_Kernel : Cert.Pre_perm_2013_Kernel.Facts) (hPre_perm_2031_Kernel : Cert.Pre_perm_2031_Kernel.Facts) (hPre_perm_2103_Kernel : Cert.Pre_perm_2103_Kernel.Facts) (hPre_perm_2130_Kernel : Cert.Pre_perm_2130_Kernel.Facts) (hPre_perm_2301_Kernel : Cert.Pre_perm_2301_Kernel.Facts) (hPre_perm_2310_Kernel : Cert.Pre_perm_2310_Kernel.Facts) (hPre_perm_3012_Kernel : Cert.Pre_perm_3012_Kernel.Facts) (hPre_perm_3021_Kernel : Cert.Pre_perm_3021_Kernel.Facts) (hPre_perm_3102_Kernel : Cert.Pre_perm_3102_Kernel.Facts) (hPre_perm_3120_Kernel : Cert.Pre_perm_3120_Kernel.Facts) (hPre_perm_3201_Kernel : Cert.Pre_perm_3201_Kernel.Facts) (hPre_perm_3210_Kernel : Cert.Pre_perm_3210_Kernel.Facts) (hPre_perm_0123_ReferenceIdeal : Cert.Pre_perm_0123_ReferenceIdeal.Facts) (hPre_perm_0132_ReferenceIdeal : Cert.Pre_perm_0132_ReferenceIdeal.Facts) (hPre_perm_0213_ReferenceIdeal : Cert.Pre_perm_0213_ReferenceIdeal.Facts) (hPre_perm_0231_ReferenceIdeal : Cert.Pre_perm_0231_ReferenceIdeal.Facts) (hPre_perm_0312_ReferenceIdeal : Cert.Pre_perm_0312_ReferenceIdeal.Facts) (hPre_perm_0321_ReferenceIdeal : Cert.Pre_perm_0321_ReferenceIdeal.Facts) (hPre_perm_1023_ReferenceIdeal : Cert.Pre_perm_1023_ReferenceIdeal.Facts) (hPre_perm_1032_ReferenceIdeal : Cert.Pre_perm_1032_ReferenceIdeal.Facts) (hPre_perm_1203_ReferenceIdeal : Cert.Pre_perm_1203_ReferenceIdeal.Facts) (hPre_perm_1230_ReferenceIdeal : Cert.Pre_perm_1230_ReferenceIdeal.Facts) (hPre_perm_1302_ReferenceIdeal : Cert.Pre_perm_1302_ReferenceIdeal.Facts) (hPre_perm_1320_ReferenceIdeal : Cert.Pre_perm_1320_ReferenceIdeal.Facts) (hPre_perm_2013_ReferenceIdeal : Cert.Pre_perm_2013_ReferenceIdeal.Facts) (hPre_perm_2031_ReferenceIdeal : Cert.Pre_perm_2031_ReferenceIdeal.Facts) (hPre_perm_2103_ReferenceIdeal : Cert.Pre_perm_2103_ReferenceIdeal.Facts) (hPre_perm_2130_ReferenceIdeal : Cert.Pre_perm_2130_ReferenceIdeal.Facts) (hPre_perm_2301_ReferenceIdeal : Cert.Pre_perm_2301_ReferenceIdeal.Facts) (hPre_perm_2310_ReferenceIdeal : Cert.Pre_perm_2310_ReferenceIdeal.Facts) (hPre_perm_3012_ReferenceIdeal : Cert.Pre_perm_3012_ReferenceIdeal.Facts) (hPre_perm_3021_ReferenceIdeal : Cert.Pre_perm_3021_ReferenceIdeal.Facts) (hPre_perm_3102_ReferenceIdeal : Cert.Pre_perm_3102_ReferenceIdeal.Facts) (hPre_perm_3120_ReferenceIdeal : Cert.Pre_perm_3120_ReferenceIdeal.Facts) (hPre_perm_3201_ReferenceIdeal : Cert.Pre_perm_3201_ReferenceIdeal.Facts) (hPre_perm_3210_ReferenceIdeal : Cert.Pre_perm_3210_ReferenceIdeal.Facts),
    quiescent_Kernel (hKernel := hKernel) (hPre_perm_0123_Kernel := hPre_perm_0123_Kernel)
    ∧ quiescent_Kernel_pre_perm_0132_Kernel (hKernel := hKernel) (hPre_perm_0132_Kernel := hPre_perm_0132_Kernel)
    ∧ quiescent_Kernel_pre_perm_0213_Kernel (hKernel := hKernel) (hPre_perm_0213_Kernel := hPre_perm_0213_Kernel)
    ∧ quiescent_Kernel_pre_perm_0231_Kernel (hKernel := hKernel) (hPre_perm_0231_Kernel := hPre_perm_0231_Kernel)
    ∧ quiescent_Kernel_pre_perm_0312_Kernel (hKernel := hKernel) (hPre_perm_0312_Kernel := hPre_perm_0312_Kernel)
    ∧ quiescent_Kernel_pre_perm_0321_Kernel (hKernel := hKernel) (hPre_perm_0321_Kernel := hPre_perm_0321_Kernel)
    ∧ quiescent_Kernel_pre_perm_1023_Kernel (hKernel := hKernel) (hPre_perm_1023_Kernel := hPre_perm_1023_Kernel)
    ∧ quiescent_Kernel_pre_perm_1032_Kernel (hKernel := hKernel) (hPre_perm_1032_Kernel := hPre_perm_1032_Kernel)
    ∧ quiescent_Kernel_pre_perm_1203_Kernel (hKernel := hKernel) (hPre_perm_1203_Kernel := hPre_perm_1203_Kernel)
    ∧ quiescent_Kernel_pre_perm_1230_Kernel (hKernel := hKernel) (hPre_perm_1230_Kernel := hPre_perm_1230_Kernel)
    ∧ quiescent_Kernel_pre_perm_1302_Kernel (hKernel := hKernel) (hPre_perm_1302_Kernel := hPre_perm_1302_Kernel)
    ∧ quiescent_Kernel_pre_perm_1320_Kernel (hKernel := hKernel) (hPre_perm_1320_Kernel := hPre_perm_1320_Kernel)
    ∧ quiescent_Kernel_pre_perm_2013_Kernel (hKernel := hKernel) (hPre_perm_2013_Kernel := hPre_perm_2013_Kernel)
    ∧ quiescent_Kernel_pre_perm_2031_Kernel (hKernel := hKernel) (hPre_perm_2031_Kernel := hPre_perm_2031_Kernel)
    ∧ quiescent_Kernel_pre_perm_2103_Kernel (hKernel := hKernel) (hPre_perm_2103_Kernel := hPre_perm_2103_Kernel)
    ∧ quiescent_Kernel_pre_perm_2130_Kernel (hKernel := hKernel) (hPre_perm_2130_Kernel := hPre_perm_2130_Kernel)
    ∧ quiescent_Kernel_pre_perm_2301_Kernel (hKernel := hKernel) (hPre_perm_2301_Kernel := hPre_perm_2301_Kernel)
    ∧ quiescent_Kernel_pre_perm_2310_Kernel (hKernel := hKernel) (hPre_perm_2310_Kernel := hPre_perm_2310_Kernel)
    ∧ quiescent_Kernel_pre_perm_3012_Kernel (hKernel := hKernel) (hPre_perm_3012_Kernel := hPre_perm_3012_Kernel)
    ∧ quiescent_Kernel_pre_perm_3021_Kernel (hKernel := hKernel) (hPre_perm_3021_Kernel := hPre_perm_3021_Kernel)
    ∧ quiescent_Kernel_pre_perm_3102_Kernel (hKernel := hKernel) (hPre_perm_3102_Kernel := hPre_perm_3102_Kernel)
    ∧ quiescent_Kernel_pre_perm_3120_Kernel (hKernel := hKernel) (hPre_perm_3120_Kernel := hPre_perm_3120_Kernel)
    ∧ quiescent_Kernel_pre_perm_3201_Kernel (hKernel := hKernel) (hPre_perm_3201_Kernel := hPre_perm_3201_Kernel)
    ∧ quiescent_Kernel_pre_perm_3210_Kernel (hKernel := hKernel) (hPre_perm_3210_Kernel := hPre_perm_3210_Kernel)
    ∧ quiescent_KernelIdeal (hKernelIdeal := hKernelIdeal) (hPre_perm_0123_Kernel := hPre_perm_0123_Kernel)
    ∧ quiescent_KernelIdeal_pre_perm_0132_Kernel (hKernelIdeal := hKernelIdeal) (hPre_perm_0132_Kernel := hPre_perm_0132_Kernel)
    ∧ quiescent_KernelIdeal_pre_perm_0213_Kernel (hKernelIdeal := hKernelIdeal) (hPre_perm_0213_Kernel := hPre_perm_0213_Kernel)
    ∧ quiescent_KernelIdeal_pre_perm_0231_Kernel (hKernelIdeal := hKernelIdeal) (hPre_perm_0231_Kernel := hPre_perm_0231_Kernel)
    ∧ quiescent_KernelIdeal_pre_perm_0312_Kernel (hKernelIdeal := hKernelIdeal) (hPre_perm_0312_Kernel := hPre_perm_0312_Kernel)
    ∧ quiescent_KernelIdeal_pre_perm_0321_Kernel (hKernelIdeal := hKernelIdeal) (hPre_perm_0321_Kernel := hPre_perm_0321_Kernel)
    ∧ quiescent_KernelIdeal_pre_perm_1023_Kernel (hKernelIdeal := hKernelIdeal) (hPre_perm_1023_Kernel := hPre_perm_1023_Kernel)
    ∧ quiescent_KernelIdeal_pre_perm_1032_Kernel (hKernelIdeal := hKernelIdeal) (hPre_perm_1032_Kernel := hPre_perm_1032_Kernel)
    ∧ quiescent_KernelIdeal_pre_perm_1203_Kernel (hKernelIdeal := hKernelIdeal) (hPre_perm_1203_Kernel := hPre_perm_1203_Kernel)
    ∧ quiescent_KernelIdeal_pre_perm_1230_Kernel (hKernelIdeal := hKernelIdeal) (hPre_perm_1230_Kernel := hPre_perm_1230_Kernel)
    ∧ quiescent_KernelIdeal_pre_perm_1302_Kernel (hKernelIdeal := hKernelIdeal) (hPre_perm_1302_Kernel := hPre_perm_1302_Kernel)
    ∧ quiescent_KernelIdeal_pre_perm_1320_Kernel (hKernelIdeal := hKernelIdeal) (hPre_perm_1320_Kernel := hPre_perm_1320_Kernel)
    ∧ quiescent_KernelIdeal_pre_perm_2013_Kernel (hKernelIdeal := hKernelIdeal) (hPre_perm_2013_Kernel := hPre_perm_2013_Kernel)
    ∧ quiescent_KernelIdeal_pre_perm_2031_Kernel (hKernelIdeal := hKernelIdeal) (hPre_perm_2031_Kernel := hPre_perm_2031_Kernel)
    ∧ quiescent_KernelIdeal_pre_perm_2103_Kernel (hKernelIdeal := hKernelIdeal) (hPre_perm_2103_Kernel := hPre_perm_2103_Kernel)
    ∧ quiescent_KernelIdeal_pre_perm_2130_Kernel (hKernelIdeal := hKernelIdeal) (hPre_perm_2130_Kernel := hPre_perm_2130_Kernel)
    ∧ quiescent_KernelIdeal_pre_perm_2301_Kernel (hKernelIdeal := hKernelIdeal) (hPre_perm_2301_Kernel := hPre_perm_2301_Kernel)
    ∧ quiescent_KernelIdeal_pre_perm_2310_Kernel (hKernelIdeal := hKernelIdeal) (hPre_perm_2310_Kernel := hPre_perm_2310_Kernel)
    ∧ quiescent_KernelIdeal_pre_perm_3012_Kernel (hKernelIdeal := hKernelIdeal) (hPre_perm_3012_Kernel := hPre_perm_3012_Kernel)
    ∧ quiescent_KernelIdeal_pre_perm_3021_Kernel (hKernelIdeal := hKernelIdeal) (hPre_perm_3021_Kernel := hPre_perm_3021_Kernel)
    ∧ quiescent_KernelIdeal_pre_perm_3102_Kernel (hKernelIdeal := hKernelIdeal) (hPre_perm_3102_Kernel := hPre_perm_3102_Kernel)
    ∧ quiescent_KernelIdeal_pre_perm_3120_Kernel (hKernelIdeal := hKernelIdeal) (hPre_perm_3120_Kernel := hPre_perm_3120_Kernel)
    ∧ quiescent_KernelIdeal_pre_perm_3201_Kernel (hKernelIdeal := hKernelIdeal) (hPre_perm_3201_Kernel := hPre_perm_3201_Kernel)
    ∧ quiescent_KernelIdeal_pre_perm_3210_Kernel (hKernelIdeal := hKernelIdeal) (hPre_perm_3210_Kernel := hPre_perm_3210_Kernel)
    ∧ quiescent_ReferenceIdeal (hReferenceIdeal := hReferenceIdeal)
    ∧ quiescent_ReferenceIdeal_pre_perm_0123_ReferenceIdeal (hReferenceIdeal := hReferenceIdeal) (hPre_perm_0123_ReferenceIdeal := hPre_perm_0123_ReferenceIdeal)
    ∧ quiescent_ReferenceIdeal_pre_perm_0132_ReferenceIdeal (hReferenceIdeal := hReferenceIdeal) (hPre_perm_0132_ReferenceIdeal := hPre_perm_0132_ReferenceIdeal)
    ∧ quiescent_ReferenceIdeal_pre_perm_0213_ReferenceIdeal (hReferenceIdeal := hReferenceIdeal) (hPre_perm_0213_ReferenceIdeal := hPre_perm_0213_ReferenceIdeal)
    ∧ quiescent_ReferenceIdeal_pre_perm_0231_ReferenceIdeal (hReferenceIdeal := hReferenceIdeal) (hPre_perm_0231_ReferenceIdeal := hPre_perm_0231_ReferenceIdeal)
    ∧ quiescent_ReferenceIdeal_pre_perm_0312_ReferenceIdeal (hReferenceIdeal := hReferenceIdeal) (hPre_perm_0312_ReferenceIdeal := hPre_perm_0312_ReferenceIdeal)
    ∧ quiescent_ReferenceIdeal_pre_perm_0321_ReferenceIdeal (hReferenceIdeal := hReferenceIdeal) (hPre_perm_0321_ReferenceIdeal := hPre_perm_0321_ReferenceIdeal)
    ∧ quiescent_ReferenceIdeal_pre_perm_1023_ReferenceIdeal (hReferenceIdeal := hReferenceIdeal) (hPre_perm_1023_ReferenceIdeal := hPre_perm_1023_ReferenceIdeal)
    ∧ quiescent_ReferenceIdeal_pre_perm_1032_ReferenceIdeal (hReferenceIdeal := hReferenceIdeal) (hPre_perm_1032_ReferenceIdeal := hPre_perm_1032_ReferenceIdeal)
    ∧ quiescent_ReferenceIdeal_pre_perm_1203_ReferenceIdeal (hReferenceIdeal := hReferenceIdeal) (hPre_perm_1203_ReferenceIdeal := hPre_perm_1203_ReferenceIdeal)
    ∧ quiescent_ReferenceIdeal_pre_perm_1230_ReferenceIdeal (hReferenceIdeal := hReferenceIdeal) (hPre_perm_1230_ReferenceIdeal := hPre_perm_1230_ReferenceIdeal)
    ∧ quiescent_ReferenceIdeal_pre_perm_1302_ReferenceIdeal (hReferenceIdeal := hReferenceIdeal) (hPre_perm_1302_ReferenceIdeal := hPre_perm_1302_ReferenceIdeal)
    ∧ quiescent_ReferenceIdeal_pre_perm_1320_ReferenceIdeal (hReferenceIdeal := hReferenceIdeal) (hPre_perm_1320_ReferenceIdeal := hPre_perm_1320_ReferenceIdeal)
    ∧ quiescent_ReferenceIdeal_pre_perm_2013_ReferenceIdeal (hReferenceIdeal := hReferenceIdeal) (hPre_perm_2013_ReferenceIdeal := hPre_perm_2013_ReferenceIdeal)
    ∧ quiescent_ReferenceIdeal_pre_perm_2031_ReferenceIdeal (hReferenceIdeal := hReferenceIdeal) (hPre_perm_2031_ReferenceIdeal := hPre_perm_2031_ReferenceIdeal)
    ∧ quiescent_ReferenceIdeal_pre_perm_2103_ReferenceIdeal (hReferenceIdeal := hReferenceIdeal) (hPre_perm_2103_ReferenceIdeal := hPre_perm_2103_ReferenceIdeal)
    ∧ quiescent_ReferenceIdeal_pre_perm_2130_ReferenceIdeal (hReferenceIdeal := hReferenceIdeal) (hPre_perm_2130_ReferenceIdeal := hPre_perm_2130_ReferenceIdeal)
    ∧ quiescent_ReferenceIdeal_pre_perm_2301_ReferenceIdeal (hReferenceIdeal := hReferenceIdeal) (hPre_perm_2301_ReferenceIdeal := hPre_perm_2301_ReferenceIdeal)
    ∧ quiescent_ReferenceIdeal_pre_perm_2310_ReferenceIdeal (hReferenceIdeal := hReferenceIdeal) (hPre_perm_2310_ReferenceIdeal := hPre_perm_2310_ReferenceIdeal)
    ∧ quiescent_ReferenceIdeal_pre_perm_3012_ReferenceIdeal (hReferenceIdeal := hReferenceIdeal) (hPre_perm_3012_ReferenceIdeal := hPre_perm_3012_ReferenceIdeal)
    ∧ quiescent_ReferenceIdeal_pre_perm_3021_ReferenceIdeal (hReferenceIdeal := hReferenceIdeal) (hPre_perm_3021_ReferenceIdeal := hPre_perm_3021_ReferenceIdeal)
    ∧ quiescent_ReferenceIdeal_pre_perm_3102_ReferenceIdeal (hReferenceIdeal := hReferenceIdeal) (hPre_perm_3102_ReferenceIdeal := hPre_perm_3102_ReferenceIdeal)
    ∧ quiescent_ReferenceIdeal_pre_perm_3120_ReferenceIdeal (hReferenceIdeal := hReferenceIdeal) (hPre_perm_3120_ReferenceIdeal := hPre_perm_3120_ReferenceIdeal)
    ∧ quiescent_ReferenceIdeal_pre_perm_3201_ReferenceIdeal (hReferenceIdeal := hReferenceIdeal) (hPre_perm_3201_ReferenceIdeal := hPre_perm_3201_ReferenceIdeal)
    ∧ quiescent_ReferenceIdeal_pre_perm_3210_ReferenceIdeal (hReferenceIdeal := hReferenceIdeal) (hPre_perm_3210_ReferenceIdeal := hPre_perm_3210_ReferenceIdeal)
    ∧ preserves_Kernel_KernelIdeal
    ∧ algebraic_KernelIdeal_ReferenceIdeal (hKernelIdeal := hKernelIdeal) (hReferenceIdeal := hReferenceIdeal) (hPre_perm_0123_Kernel := hPre_perm_0123_Kernel)
    ∧ algebraic_KernelIdeal_ReferenceIdeal_pre_perm_0132_Kernel (hKernelIdeal := hKernelIdeal) (hReferenceIdeal := hReferenceIdeal) (hPre_perm_0132_Kernel := hPre_perm_0132_Kernel)
    ∧ algebraic_KernelIdeal_ReferenceIdeal_pre_perm_0213_Kernel (hKernelIdeal := hKernelIdeal) (hReferenceIdeal := hReferenceIdeal) (hPre_perm_0213_Kernel := hPre_perm_0213_Kernel)
    ∧ algebraic_KernelIdeal_ReferenceIdeal_pre_perm_0231_Kernel (hKernelIdeal := hKernelIdeal) (hReferenceIdeal := hReferenceIdeal) (hPre_perm_0231_Kernel := hPre_perm_0231_Kernel)
    ∧ algebraic_KernelIdeal_ReferenceIdeal_pre_perm_0312_Kernel (hKernelIdeal := hKernelIdeal) (hReferenceIdeal := hReferenceIdeal) (hPre_perm_0312_Kernel := hPre_perm_0312_Kernel)
    ∧ algebraic_KernelIdeal_ReferenceIdeal_pre_perm_0321_Kernel (hKernelIdeal := hKernelIdeal) (hReferenceIdeal := hReferenceIdeal) (hPre_perm_0321_Kernel := hPre_perm_0321_Kernel)
    ∧ algebraic_KernelIdeal_ReferenceIdeal_pre_perm_1023_Kernel (hKernelIdeal := hKernelIdeal) (hReferenceIdeal := hReferenceIdeal) (hPre_perm_1023_Kernel := hPre_perm_1023_Kernel)
    ∧ algebraic_KernelIdeal_ReferenceIdeal_pre_perm_1032_Kernel (hKernelIdeal := hKernelIdeal) (hReferenceIdeal := hReferenceIdeal) (hPre_perm_1032_Kernel := hPre_perm_1032_Kernel)
    ∧ algebraic_KernelIdeal_ReferenceIdeal_pre_perm_1203_Kernel (hKernelIdeal := hKernelIdeal) (hReferenceIdeal := hReferenceIdeal) (hPre_perm_1203_Kernel := hPre_perm_1203_Kernel)
    ∧ algebraic_KernelIdeal_ReferenceIdeal_pre_perm_1230_Kernel (hKernelIdeal := hKernelIdeal) (hReferenceIdeal := hReferenceIdeal) (hPre_perm_1230_Kernel := hPre_perm_1230_Kernel)
    ∧ algebraic_KernelIdeal_ReferenceIdeal_pre_perm_1302_Kernel (hKernelIdeal := hKernelIdeal) (hReferenceIdeal := hReferenceIdeal) (hPre_perm_1302_Kernel := hPre_perm_1302_Kernel)
    ∧ algebraic_KernelIdeal_ReferenceIdeal_pre_perm_1320_Kernel (hKernelIdeal := hKernelIdeal) (hReferenceIdeal := hReferenceIdeal) (hPre_perm_1320_Kernel := hPre_perm_1320_Kernel)
    ∧ algebraic_KernelIdeal_ReferenceIdeal_pre_perm_2013_Kernel (hKernelIdeal := hKernelIdeal) (hReferenceIdeal := hReferenceIdeal) (hPre_perm_2013_Kernel := hPre_perm_2013_Kernel)
    ∧ algebraic_KernelIdeal_ReferenceIdeal_pre_perm_2031_Kernel (hKernelIdeal := hKernelIdeal) (hReferenceIdeal := hReferenceIdeal) (hPre_perm_2031_Kernel := hPre_perm_2031_Kernel)
    ∧ algebraic_KernelIdeal_ReferenceIdeal_pre_perm_2103_Kernel (hKernelIdeal := hKernelIdeal) (hReferenceIdeal := hReferenceIdeal) (hPre_perm_2103_Kernel := hPre_perm_2103_Kernel)
    ∧ algebraic_KernelIdeal_ReferenceIdeal_pre_perm_2130_Kernel (hKernelIdeal := hKernelIdeal) (hReferenceIdeal := hReferenceIdeal) (hPre_perm_2130_Kernel := hPre_perm_2130_Kernel)
    ∧ algebraic_KernelIdeal_ReferenceIdeal_pre_perm_2301_Kernel (hKernelIdeal := hKernelIdeal) (hReferenceIdeal := hReferenceIdeal) (hPre_perm_2301_Kernel := hPre_perm_2301_Kernel)
    ∧ algebraic_KernelIdeal_ReferenceIdeal_pre_perm_2310_Kernel (hKernelIdeal := hKernelIdeal) (hReferenceIdeal := hReferenceIdeal) (hPre_perm_2310_Kernel := hPre_perm_2310_Kernel)
    ∧ algebraic_KernelIdeal_ReferenceIdeal_pre_perm_3012_Kernel (hKernelIdeal := hKernelIdeal) (hReferenceIdeal := hReferenceIdeal) (hPre_perm_3012_Kernel := hPre_perm_3012_Kernel)
    ∧ algebraic_KernelIdeal_ReferenceIdeal_pre_perm_3021_Kernel (hKernelIdeal := hKernelIdeal) (hReferenceIdeal := hReferenceIdeal) (hPre_perm_3021_Kernel := hPre_perm_3021_Kernel)
    ∧ algebraic_KernelIdeal_ReferenceIdeal_pre_perm_3102_Kernel (hKernelIdeal := hKernelIdeal) (hReferenceIdeal := hReferenceIdeal) (hPre_perm_3102_Kernel := hPre_perm_3102_Kernel)
    ∧ algebraic_KernelIdeal_ReferenceIdeal_pre_perm_3120_Kernel (hKernelIdeal := hKernelIdeal) (hReferenceIdeal := hReferenceIdeal) (hPre_perm_3120_Kernel := hPre_perm_3120_Kernel)
    ∧ algebraic_KernelIdeal_ReferenceIdeal_pre_perm_3201_Kernel (hKernelIdeal := hKernelIdeal) (hReferenceIdeal := hReferenceIdeal) (hPre_perm_3201_Kernel := hPre_perm_3201_Kernel)
    ∧ algebraic_KernelIdeal_ReferenceIdeal_pre_perm_3210_Kernel (hKernelIdeal := hKernelIdeal) (hReferenceIdeal := hReferenceIdeal) (hPre_perm_3210_Kernel := hPre_perm_3210_Kernel)
-- ==== Pre_perm_0123_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 0#32 | 1 => 1#32 | 2 => 2#32 | 3 => 3#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_perm_0123_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 0#32 | 1 => 1#32 | 2 => 2#32 | 3 => 3#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_perm_0132_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 0#32 | 1 => 1#32 | 2 => 3#32 | 3 => 2#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_perm_0132_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 0#32 | 1 => 1#32 | 2 => 3#32 | 3 => 2#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_perm_0213_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 0#32 | 1 => 2#32 | 2 => 1#32 | 3 => 3#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_perm_0213_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 0#32 | 1 => 2#32 | 2 => 1#32 | 3 => 3#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_perm_0231_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 0#32 | 1 => 2#32 | 2 => 3#32 | 3 => 1#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_perm_0231_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 0#32 | 1 => 2#32 | 2 => 3#32 | 3 => 1#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_perm_0312_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 0#32 | 1 => 3#32 | 2 => 1#32 | 3 => 2#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_perm_0312_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 0#32 | 1 => 3#32 | 2 => 1#32 | 3 => 2#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_perm_0321_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 0#32 | 1 => 3#32 | 2 => 2#32 | 3 => 1#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_perm_0321_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 0#32 | 1 => 3#32 | 2 => 2#32 | 3 => 1#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_perm_1023_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 1#32 | 1 => 0#32 | 2 => 2#32 | 3 => 3#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_perm_1023_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 1#32 | 1 => 0#32 | 2 => 2#32 | 3 => 3#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_perm_1032_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 1#32 | 1 => 0#32 | 2 => 3#32 | 3 => 2#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_perm_1032_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 1#32 | 1 => 0#32 | 2 => 3#32 | 3 => 2#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_perm_1203_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 1#32 | 1 => 2#32 | 2 => 0#32 | 3 => 3#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_perm_1203_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 1#32 | 1 => 2#32 | 2 => 0#32 | 3 => 3#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_perm_1230_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_perm_1230_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_perm_1302_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 1#32 | 1 => 3#32 | 2 => 0#32 | 3 => 2#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_perm_1302_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 1#32 | 1 => 3#32 | 2 => 0#32 | 3 => 2#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_perm_1320_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 1#32 | 1 => 3#32 | 2 => 2#32 | 3 => 0#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_perm_1320_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 1#32 | 1 => 3#32 | 2 => 2#32 | 3 => 0#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_perm_2013_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 2#32 | 1 => 0#32 | 2 => 1#32 | 3 => 3#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_perm_2013_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 2#32 | 1 => 0#32 | 2 => 1#32 | 3 => 3#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_perm_2031_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 2#32 | 1 => 0#32 | 2 => 3#32 | 3 => 1#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_perm_2031_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 2#32 | 1 => 0#32 | 2 => 3#32 | 3 => 1#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_perm_2103_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 2#32 | 1 => 1#32 | 2 => 0#32 | 3 => 3#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_perm_2103_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 2#32 | 1 => 1#32 | 2 => 0#32 | 3 => 3#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_perm_2130_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 2#32 | 1 => 1#32 | 2 => 3#32 | 3 => 0#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_perm_2130_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 2#32 | 1 => 1#32 | 2 => 3#32 | 3 => 0#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_perm_2301_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_perm_2301_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_perm_2310_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 2#32 | 1 => 3#32 | 2 => 1#32 | 3 => 0#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_perm_2310_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 2#32 | 1 => 3#32 | 2 => 1#32 | 3 => 0#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_perm_3012_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_perm_3012_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_perm_3021_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 3#32 | 1 => 0#32 | 2 => 2#32 | 3 => 1#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_perm_3021_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 3#32 | 1 => 0#32 | 2 => 2#32 | 3 => 1#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_perm_3102_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 3#32 | 1 => 1#32 | 2 => 0#32 | 3 => 2#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_perm_3102_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 3#32 | 1 => 1#32 | 2 => 0#32 | 3 => 2#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_perm_3120_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 3#32 | 1 => 1#32 | 2 => 2#32 | 3 => 0#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_perm_3120_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 3#32 | 1 => 1#32 | 2 => 2#32 | 3 => 0#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_perm_3201_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 3#32 | 1 => 2#32 | 2 => 0#32 | 3 => 1#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_perm_3201_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 3#32 | 1 => 2#32 | 2 => 0#32 | 3 => 1#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Pre_perm_3210_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 3#32 | 1 => 2#32 | 2 => 1#32 | 3 => 0#32
  | _ => 0#32

def fn {F : FTy → Type} [FloatOps F] (main_arg0 : FVec F S1x256x256 .bf16) (main_arg1 : IVec S4 32) : IVec S4 1 :=
  let main_c : IVec S4 32 := fun i => lit0 (S4.rowMajor i)
  let main_v0 : IVec S4 1 := cmpi .eq main_arg1 main_c
  main_v0
-- ==== Pre_perm_3210_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 3#32 | 1 => 2#32 | 2 => 1#32 | 3 => 0#32
  | _ => 0#32

def fn {F : FTy → Type} [FloatOps F] (main_arg0 : FVec F S4x256x256 .bf16) (main_arg1 : IVec S4 32) : IVec S4 1 :=
  let main_c : IVec S4 32 := fun i => lit0 (S4.rowMajor i)
  let main_v0 : IVec S4 1 := cmpi .eq main_arg1 main_c
  main_v0
-- ==== Kernel.lean ====
abbrev S1x256x256 : Shape := ⟨3, ![1, 256, 256]⟩
abbrev S4 : Shape := ⟨1, ![4]⟩
abbrev S_ : Shape := ⟨0, ![]⟩
abbrev S1 : Shape := ⟨1, ![1]⟩

abbrev nBuf : Space → Nat
  | .hbm => 3
  | .vmem => 3
  | .smem => 1
  | _ => 0

abbrev bufTy : (tb : Table) → Fin (tcTables nBuf tb) → BufTy
  | .hbm, ⟨0, _⟩ => ⟨S1x256x256, .bf16⟩
  | .hbm, ⟨1, _⟩ => ⟨S4, .i32⟩
  | .hbm, ⟨2, _⟩ => ⟨S1x256x256, .bf16⟩
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .smem, ⟨0, _⟩ => ⟨S4, .i32⟩
  | _, _ => ⟨S1x256x256, .bf16⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 1 5 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : Index := Scalar.indexCast v2
  ![v3.toNat]
def k0_dev1 (d0 : Dev nD) (v5 : BitVec 32) (v8 : BitVec 32) (v11 : BitVec 32) (v14 : BitVec 32) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v15 : BitVec 1 := Scalar.cmpi .eq v14 v2
  let c3_i32 : BitVec 32 := 3#32
  let v12 : BitVec 1 := Scalar.cmpi .eq v11 v2
  let c2_i32 : BitVec 32 := 2#32
  let v9 : BitVec 1 := Scalar.cmpi .eq v8 v2
  let c1_i32_1 : BitVec 32 := 1#32
  let v6 : BitVec 1 := Scalar.cmpi .eq v5 v2
  let c0_i32 : BitVec 32 := 0#32
  let c0_i32_0 : BitVec 32 := 0#32
  let v7 : BitVec 32 := Scalar.select v6 c0_i32 c0_i32_0
  let v10 : BitVec 32 := Scalar.select v9 c1_i32_1 v7
  let v13 : BitVec 32 := Scalar.select v12 c2_i32 v10
  let v16 : BitVec 32 := Scalar.select v15 c3_i32 v13
  let c1_i32_9 : BitVec 32 := 1#32
  let v23 : BitVec 32 := Scalar.muli v16 c1_i32_9
  let v24 : BitVec 32 := Scalar.addi c0_i32_10 v23
  v24.toNat

def k0_chk1 (d0 : Dev nD) (v5 : BitVec 32) (v8 : BitVec 32) (v11 : BitVec 32) (v14 : BitVec 32) : Prop :=
  ((k0_dev1 d0 v5 v8 v11 v14) < nD)
theorem k0_dev1_lt : ∀ (d0 : Dev nD) (v5 : BitVec 32) (v8 : BitVec 32) (v11 : BitVec 32) (v14 : BitVec 32) (k0_hw1 : k0_chk1 d0 v5 v8 v11 v14), (k0_dev1 d0 v5 v8 v11 v14) < nD := fun d0 v5 v8 v11 v14 k0_hw1 => k0_hw1

def k0_dev2 (v4 : BitVec 32) : Nat :=
  let c0_i32_13 : BitVec 32 := 0#32
  let c1_i32_12 : BitVec 32 := 1#32
  let v25 : BitVec 32 := Scalar.muli v4 c1_i32_12
  let v26 : BitVec 32 := Scalar.addi c0_i32_13 v25
  v26.toNat

def k0_dev3 (v4 : BitVec 32) : Nat :=
  let c0_i32_16 : BitVec 32 := 0#32
  let c1_i32_15 : BitVec 32 := 1#32
  let v27 : BitVec 32 := Scalar.muli v4 c1_i32_15
  let v28 : BitVec 32 := Scalar.addi c0_i32_16 v27
  v28.toNat

def k0_chk2 (v4 : BitVec 32) : Prop :=
  ((k0_dev2 v4) < nD) ∧
  ((k0_dev3 v4) < nD)
theorem k0_dev2_lt : ∀ (v4 : BitVec 32) (k0_hw2 : k0_chk2 v4), (k0_dev2 v4) < nD := fun v4 k0_hw2 => k0_hw2.1
theorem k0_dev3_lt : ∀ (v4 : BitVec 32) (k0_hw2 : k0_chk2 v4), (k0_dev3 v4) < nD := fun v4 k0_hw2 => k0_hw2.2

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x256x256 : Shape := ⟨3, ![4, 256, 256]⟩
abbrev S4 : Shape := ⟨1, ![4]⟩
abbrev S_ : Shape := ⟨0, ![]⟩
abbrev S4x1 : Shape := ⟨2, ![4, 1]⟩

abbrev nBuf : Space → Nat
  | .hbm => 16
  | .vmem => 0
  | .smem => 0
  | _ => 0

abbrev bufTy : (tb : Table) → Fin (tcTables nBuf tb) → BufTy
  | .hbm, ⟨0, _⟩ => ⟨S4x256x256, .bf16⟩
  | .hbm, ⟨1, _⟩ => ⟨S4, .i32⟩
  | .hbm, ⟨2, _⟩ => ⟨S4, .i32⟩
  | .hbm, ⟨3, _⟩ => ⟨S4, .i32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i1⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S4, .i32⟩
  | .hbm, ⟨12, _⟩ => ⟨S4x1, .i32⟩
  | .hbm, ⟨13, _⟩ => ⟨S4x256x256, .bf16⟩
  | .hbm, ⟨14, _⟩ => ⟨S4x256x256, .f32⟩
  | .hbm, ⟨15, _⟩ => ⟨S4x256x256, .bf16⟩
  | _, _ => ⟨S4x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Proof.PermuteIdeal.Schedule.lean ====
/-
# The permute kernel's protocol, for any permutation of the four devices

Device `c` sends its block to device `σ c`, so it receives from `σ.symm c`. The table `pi` that every device reads holds
the word `σ i` at position `i`. Each device

* copies its block into its send buffer;
* signals the barrier semaphore of `σ.symm c` (the device that will write into it), then the one of `σ c`;
* waits for two units on its own barrier semaphore;
* transfers the send buffer into the result buffer of `σ c`, and waits for both ends of its transfers.

The permutation is arbitrary: a device may be its own partner, so both signals and both ends of a transfer may be its own.
This module says what the cells hand over (`sched`), what each device owes (`debt`), and what the table's words give the kernel.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Quiescent
public import Idealize.ShloMosaic.Lib.Tactic

@[expose] public section

noncomputable section

namespace Cert.KernelIdeal.Permute

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resources -/

/-- The rounds' ghost state of this kernel's own cells, duties named by booleans; -/
abbrev UK : Type := URounds (GSem nD τ sig) Bool
/-- beside the staging pipeline's. -/
abbrev UA : Type := UR sig nD τ × UK

local notation "𝕄" => MT nD τ sig Unit (Elt F) ℕ UA ℕ

abbrev EPipe : Emb (UR sig nD τ) (MT nD τ sig Unit (Elt F) ℕ UA ℕ) := embL
abbrev EK : Emb UK (MT nD τ sig Unit (Elt F) ℕ UA ℕ) := embR

variable (σ : Equiv.Perm (Dev nD)) (m : (ℓ : Loc nD τ sig) → Buf (Elt F) ℓ)

/-! ## The table and the words read from it -/

/-- Position `i` of a four-word table. -/
def pos (i : Fin 4) : S4.Idx := fun a => ⟨i.val, by fin_cases a; exact i.isLt⟩

/-- Device `c`'s copy of the table `pi`. -/
abbrev table (c : Dev nD) : IVec S4 32 := m ((c : Thread nD τ).loc main_arg1)

/-- What the proof asks of the memory at launch: every device's table is that of the permutation `σ`. -/
def TableOf : Prop := ∀ (c : Dev nD) (i : Fin 4), table m c (pos i) = BitVec.ofNat 32 (σ i).val

/-- The one-word rectangles that the kernel loads: at its own device id, and at 0, 1, 2, 3. -/
abbrev rOwn (c : Dev nD) : Rect S4 := Rect.unit (s := S4) (k0_off1 c) S1.size (k0_off1_inb c)
abbrev rAt0 : Rect S4 := Rect.unit (s := S4) ![0] S1.size inb_S4_S1_0
abbrev rAt1 : Rect S4 := Rect.unit (s := S4) ![1] S1.size inb_S4_S1_1
abbrev rAt2 : Rect S4 := Rect.unit (s := S4) ![2] S1.size inb_S4_S1_2
abbrev rAt3 : Rect S4 := Rect.unit (s := S4) ![3] S1.size inb_S4_S1_3

/-- Device `c`'s staged table: its copy, whole. -/
def tabIn (c : Dev nD) : (cc0_stg0_0 : Ref sig .tc).ty.Contents (Elt F) := m ((c : Thread nD τ).loc main_arg1)

/-- The words loaded through those rectangles. -/
abbrev wOwn (c : Dev nD) (ts : (cc0_stg0_0 : Ref sig .tc).ty.Contents (Elt F)) : BitVec 32 :=
  ((Memref.whole cc0_stg0_0).access (rOwn c) : View sig .tc _ _ _).read (Elt F) ts (Shape.Idx.first (s := S1) (numel1_S1.symm ▸ Nat.one_pos))
abbrev w0 (ts : (cc0_stg0_0 : Ref sig .tc).ty.Contents (Elt F)) : BitVec 32 :=
  ((Memref.whole cc0_stg0_0).access rAt0 : View sig .tc _ _ _).read (Elt F) ts (Shape.Idx.first (s := S1) (numel1_S1.symm ▸ Nat.one_pos))
abbrev w1 (ts : (cc0_stg0_0 : Ref sig .tc).ty.Contents (Elt F)) : BitVec 32 :=
  ((Memref.whole cc0_stg0_0).access rAt1 : View sig .tc _ _ _).read (Elt F) ts (Shape.Idx.first (s := S1) (numel1_S1.symm ▸ Nat.one_pos))
abbrev w2 (ts : (cc0_stg0_0 : Ref sig .tc).ty.Contents (Elt F)) : BitVec 32 :=
  ((Memref.whole cc0_stg0_0).access rAt2 : View sig .tc _ _ _).read (Elt F) ts (Shape.Idx.first (s := S1) (numel1_S1.symm ▸ Nat.one_pos))
abbrev w3 (ts : (cc0_stg0_0 : Ref sig .tc).ty.Contents (Elt F)) : BitVec 32 :=
  ((Memref.whole cc0_stg0_0).access rAt3 : View sig .tc _ _ _).read (Elt F) ts (Shape.Idx.first (s := S1) (numel1_S1.symm ▸ Nat.one_pos))

omit [FloatOps F] in
/-- Each loaded word is the table's word at that position. -/
theorem wOwn_eq (c : Dev nD) : wOwn c (tabIn m c) = table m c (pos c) := by
  show m ((c : Thread nD τ).loc main_arg1) _ = _
  refine congrArg _ (funext fun a => Fin.ext ?_)
  fin_cases a; fin_cases c <;> rfl
omit [FloatOps F] in
theorem w0_eq (c : Dev nD) : w0 (tabIn m c) = table m c (pos 0) := by
  show m ((c : Thread nD τ).loc main_arg1) _ = _
  exact congrArg _ (funext fun a => Fin.ext (by fin_cases a; rfl))
omit [FloatOps F] in
theorem w1_eq (c : Dev nD) : w1 (tabIn m c) = table m c (pos 1) := by
  show m ((c : Thread nD τ).loc main_arg1) _ = _
  exact congrArg _ (funext fun a => Fin.ext (by fin_cases a; rfl))
omit [FloatOps F] in
theorem w2_eq (c : Dev nD) : w2 (tabIn m c) = table m c (pos 2) := by
  show m ((c : Thread nD τ).loc main_arg1) _ = _
  exact congrArg _ (funext fun a => Fin.ext (by fin_cases a; rfl))
omit [FloatOps F] in
theorem w3_eq (c : Dev nD) : w3 (tabIn m c) = table m c (pos 3) := by
  show m ((c : Thread nD τ).loc main_arg1) _ = _
  exact congrArg _ (funext fun a => Fin.ext (by fin_cases a; rfl))

set_option synthInstance.maxSize 4096 in
set_option synthInstance.maxHeartbeats 400000 in
/-- The kernel's search for its source, over every table of four distinct words: it finds the position `j` of its own id. -/
theorem search_all : ∀ a0 a1 a2 a3 j : Fin 4, a0 ≠ a1 → a0 ≠ a2 → a0 ≠ a3 → a1 ≠ a2 → a1 ≠ a3 → a2 ≠ a3 →
    k0_dev1 (![a0, a1, a2, a3] j) (BitVec.ofNat 32 a0.val) (BitVec.ofNat 32 a1.val) (BitVec.ofNat 32 a2.val) (BitVec.ofNat 32 a3.val) = j.val := by
  decide +kernel
/-- The destination chains return the word they are given, when it is a device's. -/
theorem dest_all : ∀ a : Fin 4, k0_dev2 (BitVec.ofNat 32 a.val) = a.val ∧ k0_dev3 (BitVec.ofNat 32 a.val) = a.val := by
  decide +kernel

variable {σ m} in
omit [FloatOps F] in
/-- The word at the device's own position is its destination; -/
theorem TableOf.own (h : TableOf σ m) (c : Dev nD) : wOwn c (tabIn m c) = BitVec.ofNat 32 (σ c).val := (wOwn_eq m c).trans (h c c)
variable {σ m} in
omit [FloatOps F] in
/-- it passes the kernel's check that it names a device; -/
theorem TableOf.chk (h : TableOf σ m) (c : Dev nD) : k0_chk2 (wOwn c (tabIn m c)) := by
  rw [h.own c]
  exact ⟨(dest_all (σ c)).1.symm ▸ (σ c).isLt, (dest_all (σ c)).2.symm ▸ (σ c).isLt⟩
variable {σ m} in
omit [FloatOps F] in
/-- the second signal addresses that device, -/
theorem TableOf.dev2 (h : TableOf σ m) (c : Dev nD) (hw : k0_chk2 (wOwn c (tabIn m c))) :
    (⟨k0_dev2 (wOwn c (tabIn m c)), k0_dev2_lt _ hw⟩ : Dev nD) = σ c :=
  Fin.ext (by show k0_dev2 (wOwn c (tabIn m c)) = _; rw [h.own c]; exact (dest_all (σ c)).1)
variable {σ m} in
omit [FloatOps F] in
/-- and so does the transfer. -/
theorem TableOf.dev3 (h : TableOf σ m) (c : Dev nD) (hw : k0_chk2 (wOwn c (tabIn m c))) :
    (⟨k0_dev3 (wOwn c (tabIn m c)), k0_dev3_lt _ hw⟩ : Dev nD) = σ c :=
  Fin.ext (by show k0_dev3 (wOwn c (tabIn m c)) = _; rw [h.own c]; exact (dest_all (σ c)).2)
variable {σ m} in
omit [FloatOps F] in
/-- The first signal addresses the device whose destination is `c`. -/
theorem TableOf.dev1 (h : TableOf σ m) (c : Dev nD)
    (hw : k0_chk1 c (w0 (tabIn m c)) (w1 (tabIn m c)) (w2 (tabIn m c)) (w3 (tabIn m c))) :
    (⟨k0_dev1 c (w0 (tabIn m c)) (w1 (tabIn m c)) (w2 (tabIn m c)) (w3 (tabIn m c)), k0_dev1_lt _ _ _ _ _ hw⟩ : Dev nD) = σ.symm c := by
  refine Fin.ext ?_
  show k0_dev1 c (w0 (tabIn m c)) (w1 (tabIn m c)) (w2 (tabIn m c)) (w3 (tabIn m c)) = _
  rw [w0_eq, w1_eq, w2_eq, w3_eq, h c 0, h c 1, h c 2, h c 3]
  have ne : ∀ i j : Fin 4, i ≠ j → σ i ≠ σ j := fun i j hij e => hij (σ.injective e)
  have key := search_all (σ 0) (σ 1) (σ 2) (σ 3) (σ.symm c) (ne 0 1 (by decide)) (ne 0 2 (by decide)) (ne 0 3 (by decide))
    (ne 1 2 (by decide)) (ne 1 3 (by decide)) (ne 2 3 (by decide))
  have at_src : (![σ 0, σ 1, σ 2, σ 3] : Fin 4 → Fin 4) (σ.symm c) = c := by
    have tab : ∀ j : Fin 4, (![σ 0, σ 1, σ 2, σ 3] : Fin 4 → Fin 4) j = σ j := fun j => by fin_cases j <;> rfl
    exact (tab (σ.symm c)).trans (σ.apply_symm_apply c)
  rw [at_src] at key
  exact key

/-! ## Buffers, semaphores, cells -/

/-- The staged table, the staged block of `x`, the result's staging buffer, the send buffer. -/
abbrev tabM : Memref sig .tc .smem S4 .i32 := Memref.whole cc0_stg0_0
abbrev inM : Memref sig .tc .vmem S1x256x256 .bf16 := Memref.whole cc0_stg1_0
abbrev outM : Memref sig .tc .vmem S1x256x256 .bf16 := Memref.whole cc0_stg2_0
abbrev bufM : Memref sig .tc .vmem S1x256x256 .bf16 := Memref.whole cc0_scratch0

/-- The barrier semaphore (not scoped to the launch), and the two transfer semaphores (the kernel's scratch). -/
abbrev barS : Sem sig := (SemArray.scalar (sig.barrier 0 rfl) : Sems sig S_).sem
abbrev sendS : DmaSem sig := (cc0_scratch1 : DmaSems sig S_).sem
abbrev recvS : DmaSem sig := (cc0_scratch2 : DmaSems sig S_).sem

abbrev barCell (c : Dev nD) : GSem nD τ sig := ((c : Thread nD τ), .reg barS)
abbrev sendCell (c : Dev nD) : GSem nD τ sig := ((c : Thread nD τ), .dma sendS)
abbrev recvCell (c : Dev nD) : GSem nD τ sig := ((c : Thread nD τ), .dma recvS)

/-- The two scoped semaphores, as the launch lists them; all three, as this proof lists them. -/
abbrev scopedSem : Fin 2 → SemLoc sig := fun | 0 => .dma sendS | 1 => .dma recvS
abbrev anySem : Fin 3 → SemLoc sig := fun | 0 => .reg barS | 1 => .dma sendS | 2 => .dma recvS
abbrev cell (x : Dev nD × Fin 3) : GSem nD τ sig := ((x.1 : Thread nD τ), anySem x.2)

/-- The credit of one transferred block. -/
abbrev blockCredit : ℕ := (outM : Memref sig .tc .vmem S1x256x256 .bf16).view.dmaCredit
theorem blockCredit_pos : 0 < blockCredit := View.dmaCredit_pos _ (by decide)

theorem send_ne_bar : (SemLoc.dma sendS : SemLoc sig) ≠ .reg barS := fun h => by cases h
theorem recv_ne_bar : (SemLoc.dma recvS : SemLoc sig) ≠ .reg barS := fun h => by cases h
theorem send_ne_recv : (SemLoc.dma sendS : SemLoc sig) ≠ .dma recvS := by decide

/-! ## Contents -/

/-- Device `c`'s block of `x`. -/
def xIn (c : Dev nD) : (cc0_stg1_0 : Ref sig .tc).ty.Contents (Elt F) := m ((c : Thread nD τ).loc main_arg0)
/-- Its result: the block of the device that sends to it. -/
def xOut (c : Dev nD) : (cc0_stg2_0 : Ref sig .tc).ty.Contents (Elt F) := xIn m (σ.symm c)

/-- What the kernel stores into the send buffer is the block it loaded (two shape casts to the same shape). -/
theorem pay_eq (v : Vec F S1x256x256 .bf16) : k0_pay1 v = v := by
  show shapeCast S1x256x256 (shapeCast S1x256x256 v shapeCasts_S1x256x256_S1x256x256) shapeCasts_S1x256x256_S1x256x256 = v
  rw [shapeCast_self, shapeCast_self]

/-- Device `c`'s send buffer, and its result buffer, whole at given contents. -/
def bufAt (c : Dev nD) (f : Buf (Elt F) ((bufM : Memref sig .tc .vmem S1x256x256 .bf16).view.loc (c : Thread nD τ))) : sProp 𝕄 :=
  (bufM : Memref sig .tc .vmem S1x256x256 .bf16).view.loc (c : Thread nD τ) ↦[(bufM : Memref sig .tc .vmem S1x256x256 .bf16).view.set]{fullShare} f
def outAt (c : Dev nD) (f : Buf (Elt F) ((outM : Memref sig .tc .vmem S1x256x256 .bf16).view.loc (c : Thread nD τ))) : sProp 𝕄 :=
  (outM : Memref sig .tc .vmem S1x256x256 .bf16).view.loc (c : Thread nD τ) ↦[(outM : Memref sig .tc .vmem S1x256x256 .bf16).view.set]{fullShare} f

omit [FloatOps F] in
instance bufAt_storable (c : Dev nD) (f) : BI.Storable (upEmb : UEmb _ 𝕄) (bufAt (F := F) c f) := by unfold bufAt; infer_instance
omit [FloatOps F] in
instance outAt_storable (c : Dev nD) (f) : BI.Storable (upEmb : UEmb _ 𝕄) (outAt (F := F) c f) := by unfold outAt; infer_instance

omit [FloatOps F] in
theorem bufAt_eq (c : Dev nD) (f : Buf (Elt F) ((c : Thread nD τ).loc cc0_scratch0)) :
    bufAt c f = (((c : Thread nD τ).loc cc0_scratch0) ↦{fullShare} f : sProp 𝕄) := by unfold bufAt; rw [View.set_whole]
omit [FloatOps F] in
theorem outAt_eq (c : Dev nD) (f : Buf (Elt F) ((c : Thread nD τ).loc cc0_stg2_0)) :
    outAt c f = (((c : Thread nD τ).loc cc0_stg2_0) ↦{fullShare} f : sProp 𝕄) := by unfold outAt; rw [View.set_whole]

omit [FloatOps F] in
/-- A transfer of a whole send buffer leaves the result buffer with the send buffer's contents. -/
theorem landed (c : Dev nD) (fd : Buf (Elt F) ((outM : Memref sig .tc .vmem S1x256x256 .bf16).view.loc (c : Thread nD τ)))
    (fs : (cc0_scratch0 : Ref sig .tc).ty.Contents (Elt F)) :
    (outM : Memref sig .tc .vmem S1x256x256 .bf16).view.write (Elt F) fd ((bufM : Memref sig .tc .vmem S1x256x256 .bf16).view.read (Elt F) fs) Finset.univ = fs := by
  show (View.whole cc0_stg2_0).write (Elt F) fd ((View.whole cc0_scratch0).read (Elt F) fs) Finset.univ = fs
  rw [View.read_whole]
  exact View.write_whole_univ _ _ _

/-! ## What the cells hand over -/

/-- The destination's signal hands device `c` the destination's result buffer, and that its receive cell is at round 0. -/
def readyPay (c : Dev nD) : sProp 𝕄 := iprop((∃ f, outAt (σ c) f) ∗ reached EK (recvCell (σ c)) 0)
/-- The end of the sending side returns the send buffer, still holding the block of `x`. -/
def sentPay (c : Dev nD) : sProp 𝕄 := bufAt c (xIn m c)
/-- The arrival hands device `c` its result buffer holding the result. -/
def recvPay (c : Dev nD) : sProp 𝕄 := outAt c (xOut σ m c)

abbrev OnBar (g : GSem nD τ sig) : Prop := g.1.2 = .tc ∧ g.2 = .reg barS
abbrev OnDma (g : GSem nD τ sig) : Prop := g.1.2 = .tc ∧ (g.2 = .dma sendS ∨ g.2 = .dma recvS)

/-- The one round of every cell. A barrier cell has two duties of one unit: `true`, paid by the device's destination with
    `readyPay`, and `false`, paid by its source with nothing. A transfer cell has the duty `false` of one block's credit. -/
def sched : Rounds.Schedule (GSem nD τ sig) Bool 𝕄 where
  duties g r := if r = 0 ∧ OnBar g then Finset.univ else if r = 0 ∧ OnDma g then {false} else ∅
  unitless _ := False
  amount g _ _ := if g.2 = .reg barS then 1 else blockCredit
  payload g _ d :=
    if g.2 = .reg barS then (if d then readyPay σ g.1.1 else iprop(emp))
    else if g.2 = .dma recvS then recvPay σ m g.1.1
    else if g.2 = .dma sendS then sentPay m g.1.1
    else iprop(emp)
  amount_pos g _ _ _ := by
    split
    · exact Nat.one_pos
    · exact blockCredit_pos

instance sched_payload_storable (g : GSem nD τ sig) (r : ℕ) (d : Bool) :
    BI.Storable (upEmb : UEmb _ 𝕄) ((sched (F := F) σ m).payload g r d) := by
  dsimp only [sched]
  unfold readyPay recvPay sentPay
  (repeat' split) <;> infer_instance

section Facts
variable (c : Dev nD)

omit [FloatOps F] in
theorem duties_bar : (sched (F := F) σ m).duties (barCell c) 0 = Finset.univ := by
  dsimp only [sched]; exact if_pos ⟨rfl, rfl, rfl⟩
omit [FloatOps F] in
theorem duties_send : (sched (F := F) σ m).duties (sendCell c) 0 = {false} := by
  dsimp only [sched]; rw [if_neg (fun h => send_ne_bar h.2.2)]; exact if_pos ⟨rfl, rfl, .inl rfl⟩
omit [FloatOps F] in
theorem duties_recv : (sched (F := F) σ m).duties (recvCell c) 0 = {false} := by
  dsimp only [sched]; rw [if_neg (fun h => recv_ne_bar h.2.2)]; exact if_pos ⟨rfl, rfl, .inr rfl⟩
omit [FloatOps F] in
/-- After round 0 no cell has a duty. -/
theorem duties_done (g : GSem nD τ sig) : ∀ r, 1 ≤ r → (sched (F := F) σ m).duties g r = ∅ :=
  fun r hr => by dsimp only [sched]; rw [if_neg fun h => by omega, if_neg fun h => by omega]

omit [FloatOps F] in
theorem amount_bar (d : Bool) : (sched (F := F) σ m).amount (barCell c) 0 d = 1 := by dsimp only [sched]; exact if_pos rfl
omit [FloatOps F] in
theorem amount_send (d : Bool) : (sched (F := F) σ m).amount (sendCell c) 0 d = blockCredit := by dsimp only [sched]; exact if_neg send_ne_bar
omit [FloatOps F] in
theorem amount_recv (d : Bool) : (sched (F := F) σ m).amount (recvCell c) 0 d = blockCredit := by dsimp only [sched]; exact if_neg recv_ne_bar

omit [FloatOps F] in
theorem expect_bar : (sched (F := F) σ m).expect (barCell c) 0 = 2 := by
  unfold Schedule.expect Schedule.amountOf
  rw [duties_bar, Finset.sum_congr rfl fun d _ => amount_bar σ m c d]; rfl
omit [FloatOps F] in
theorem expect_send : (sched (F := F) σ m).expect (sendCell c) 0 = blockCredit := by
  unfold Schedule.expect Schedule.amountOf; rw [duties_send, Finset.sum_singleton, amount_send]
omit [FloatOps F] in
theorem expect_recv : (sched (F := F) σ m).expect (recvCell c) 0 = blockCredit := by
  unfold Schedule.expect Schedule.amountOf; rw [duties_recv, Finset.sum_singleton, amount_recv]

omit [FloatOps F] in
theorem payload_bar_true : (sched (F := F) σ m).payload (barCell c) 0 true = readyPay σ c := by
  dsimp only [sched]; rw [if_pos rfl, if_pos rfl]
omit [FloatOps F] in
theorem payload_bar_false : (sched (F := F) σ m).payload (barCell c) 0 false = iprop(emp) := by
  dsimp only [sched]; rw [if_pos rfl]; exact if_neg Bool.false_ne_true
omit [FloatOps F] in
theorem payload_send (d : Bool) : (sched (F := F) σ m).payload (sendCell c) 0 d = sentPay m c := by
  dsimp only [sched]; rw [if_neg send_ne_bar, if_neg send_ne_recv, if_pos rfl]
omit [FloatOps F] in
theorem payload_recv (d : Bool) : (sched (F := F) σ m).payload (recvCell c) 0 d = recvPay σ m c := by
  dsimp only [sched]; rw [if_neg recv_ne_bar, if_pos rfl]

omit [FloatOps F] in
/-- All that a barrier cell's round hands over; -/
theorem all_bar : bigSep ((sched (F := F) σ m).duties (barCell c) 0 \ ∅) (fun d => (sched (F := F) σ m).payload (barCell c) 0 d)
    = iprop(emp ∗ readyPay σ c) := by
  rw [Finset.sdiff_empty, duties_bar, bigSep_univ_eq_bigSepL [false, true] (by decide) (by decide), bigSepL_cons_cons, bigSepL_singleton,
    payload_bar_false, payload_bar_true]
  rfl
omit [FloatOps F] in
/-- a send cell's; -/
theorem all_send : bigSep ((sched (F := F) σ m).duties (sendCell c) 0 \ ∅) (fun d => (sched (F := F) σ m).payload (sendCell c) 0 d) = sentPay m c := by
  rw [Finset.sdiff_empty, duties_send, bigSep_singleton, payload_send]
omit [FloatOps F] in
/-- a receive cell's. -/
theorem all_recv : bigSep ((sched (F := F) σ m).duties (recvCell c) 0 \ ∅) (fun d => (sched (F := F) σ m).payload (recvCell c) 0 d) = recvPay σ m c := by
  rw [Finset.sdiff_empty, duties_recv, bigSep_singleton, payload_recv]

end Facts

/-! ## What each device owes, and in which order it may wait -/

/-- What device `c` owes after its first signal: its transfer to `σ c`, and the unit of its second signal; -/
def debt₁ (c : Dev nD) : CellTallies nD τ sig Unit := tallyAt (recvCell (σ c)) () blockCredit + tallyAt (barCell (σ c)) () 1
/-- at launch: the unit of its first signal too. -/
def debt (c : Dev nD) : CellTallies nD τ sig Unit := debt₁ σ c + tallyAt (barCell (σ.symm c)) () 1

/-- Only TensorCore cells are counted. -/
def cnt (g : GSem nD τ sig) : Finset Unit := if g.1.2 = .tc then {()} else ∅
/-- Staging and send cells at level 0, barrier cells at 1, receive cells at 2. -/
def lev (g : GSem nD τ sig) (_ : Unit) : ℕ := if g.2 = .reg barS then 1 else if g.2 = .dma recvS then 2 else 0

theorem cnt_off (g : GSem nD τ sig) (h : g.1.2 ≠ .tc) : cnt g = ∅ := if_neg h
theorem cnt_tc (c : Dev nD) (sm : SemLoc sig) : cnt ((c : Thread nD τ), sm) = {()} := if_pos rfl
theorem lev_bar (c : Dev nD) : lev (barCell c) () = 1 := if_pos rfl
theorem lev_recv (c : Dev nD) : lev (recvCell c) () = 2 := by dsimp only [lev]; rw [if_neg recv_ne_bar, if_pos rfl]

/-- A device's debts are all to barrier and receive cells. -/
theorem debt_pos {c : Dev nD} {g : GSem nD τ sig} {u : Unit} (h : 0 < debt σ c g u) :
    g = recvCell (σ c) ∨ g = barCell (σ c) ∨ g = barCell (σ.symm c) := by
  unfold debt debt₁ at h
  rw [Pi.add_apply, Finsupp.add_apply, Pi.add_apply, Finsupp.add_apply, tallyAt_apply, tallyAt_apply, tallyAt_apply] at h
  by_contra hn
  rw [not_or, not_or] at hn
  rw [if_neg (fun h' => hn.1 h'.1), if_neg (fun h' => hn.2.1 h'.1), if_neg (fun h' => hn.2.2 h'.1)] at h
  exact Nat.lt_irrefl 0 h

omit [FloatOps F] in
/-- A staging cell may be waited on at launch, and when nothing is owed. -/
theorem mayWait_staging (c : Dev nD) (q : DmaSem sig) (hq : SemLoc.dma q ≠ .dma recvS) (O : CellTallies nD τ sig Unit) (hO : O = debt σ c ∨ O = 0) :
    (levAts cnt lev : sProp 𝕄) ⊢ MayWait (c : Thread nD τ) (.dma q) () O := by
  rcases hO with rfl | rfl
  · refine MayOwe.of_cut (L := cnt) (lev := lev) 0 (fun p hp => by rw [Finset.mem_singleton.mp hp, cnt_tc]; exact Finset.mem_singleton_self _)
      (fun g u hg => by rcases debt_pos σ hg with rfl | rfl | rfl <;> exact Finset.mem_singleton_self _)
      (fun p hp => by rw [Finset.mem_singleton.mp hp]; dsimp only [lev]; rw [if_neg (fun h => by cases h), if_neg hq])
      (fun g u hg => by
        rcases debt_pos σ hg with rfl | rfl | rfl
        · exact (lev_recv (σ c)).symm ▸ Nat.zero_lt_two
        · exact (lev_bar (σ c)).symm ▸ Nat.one_pos
        · exact (lev_bar (σ.symm c)).symm ▸ Nat.one_pos)
  · rw [MayWait_zero]; iintro -; iempintro

omit [FloatOps F] in
/-- The barrier may be waited on when only the transfer is owed. -/
theorem mayWait_bar (c : Dev nD) :
    (levAts cnt lev : sProp 𝕄) ⊢ MayWait (c : Thread nD τ) (.reg barS) () (tallyAt (recvCell (σ c)) () blockCredit) := by
  have only : ∀ (g : GSem nD τ sig) (u : Unit), 0 < (tallyAt (recvCell (σ c)) () blockCredit : CellTallies nD τ sig Unit) g u → g = recvCell (σ c) := by
    intro g u hg
    rw [tallyAt_apply] at hg
    by_contra h
    rw [if_neg (fun h' => h h'.1)] at hg
    exact Nat.lt_irrefl 0 hg
  exact MayOwe.of_cut (L := cnt) (lev := lev) 1 (fun p hp => by rw [Finset.mem_singleton.mp hp, cnt_tc]; exact Finset.mem_singleton_self _)
    (fun g u hg => by rw [only g u hg, cnt_tc]; exact Finset.mem_singleton_self _)
    (fun p hp => by rw [Finset.mem_singleton.mp hp]; exact le_of_eq (lev_bar c))
    (fun g u hg => by rw [only g u hg]; exact (lev_recv (σ c)).symm ▸ Nat.one_lt_two)

end Cert.KernelIdeal.Permute

end
-- ==== Proof.PermuteIdeal.Body.lean ====
/-
# The permute kernel's body on one device

`body_run` executes the kernel's text on device `c`, effect by effect, under the protocol of `Schedule`: from the staged
table and block, the device's ghost state and its debts, to the result buffer holding the source's block, the three cells
closed at zero, and nothing owed. `body_sound` is that run as the obligation of the staging pipeline.
-/
module

public import proofs.«01_k».proof.Proof.PermuteIdeal.Schedule

@[expose] public section

noncomputable section

namespace Cert.KernelIdeal.Permute

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UA ℕ

variable (σ : Equiv.Perm (Dev nD)) (m : (ℓ : Loc nD τ sig) → Buf (Elt F) ℓ)

/-! ## A device's ghost state and the pipeline's data -/

/-- The invariants that device `c` opens: its own three cells', its source's and its destination's barrier cells', and its
    destination's receive cell's. -/
def known (K : Dev nD × Fin 3 → ℕ) (c : Dev nD) : sProp 𝕄 :=
  iprop(cellInv EK (sched σ m) (K (c, 0)) (barCell c) ∗ cellInv EK (sched σ m) (K (c, 1)) (sendCell c) ∗ cellInv EK (sched σ m) (K (c, 2)) (recvCell c)
    ∗ cellInv EK (sched σ m) (K (σ.symm c, 0)) (barCell (σ.symm c)) ∗ cellInv EK (sched σ m) (K (σ c, 0)) (barCell (σ c))
    ∗ cellInv EK (sched σ m) (K (σ c, 2)) (recvCell (σ c)))

instance known_persistent (K : Dev nD × Fin 3 → ℕ) (c : Dev nD) : BI.Persistent (known σ m K c) := by unfold known; infer_instance

/-- Device `c`'s ghost state: those invariants, its positions at round 0 of its cells, that the cells it pays are at round
    0, and the tokens of the four duties it pays. -/
def share (K : Dev nD × Fin 3 → ℕ) (c : Dev nD) : sProp 𝕄 :=
  iprop(known σ m K c
    ∗ atPos EK (barCell c) 0 ∅ 0 ∗ atPos EK (sendCell c) 0 ∅ 0 ∗ atPos EK (recvCell c) 0 ∅ 0
    ∗ reached EK (barCell (σ.symm c)) 0 ∗ reached EK (barCell (σ c)) 0 ∗ reached EK (recvCell (σ c)) 0 ∗ reached EK (sendCell c) 0 ∗ reached EK (recvCell c) 0
    ∗ dutyTok EK (barCell (σ.symm c)) 0 true ∗ dutyTok EK (barCell (σ c)) 0 false ∗ dutyTok EK (recvCell (σ c)) 0 false ∗ dutyTok EK (sendCell c) 0 false)

/-- What the body starts from: that at some names, the credit of its barrier's two units and of its arrival, the levels. -/
def begin0 (c : Dev nD) : sProp 𝕄 :=
  iprop((∃ K, share σ m K c) ∗ cred (tallyAt (barCell c) () 2) ∗ cred (tallyAt (recvCell c) () blockCredit) ∗ levAts cnt lev)

/-- Before the body: its start, and the send buffer at any contents. -/
def pre0 (c : Dev nD) : sProp 𝕄 := iprop(begin0 σ m c ∗ ∃ f, bufAt c f)
/-- After it: the send buffer, and the three cells at zero. -/
def post0 (c : Dev nD) : sProp 𝕄 := iprop(bufAt c (xIn m c) ∗ semVal (sendCell c) 0 ∗ semVal (recvCell c) 0 ∗ semVal (barCell c) 0)

/-- The pipeline's data: the arrays as launched; the two inputs' staging buffers left in place, the result's at `xOut`. -/
def dats (_ : Fin 1) (c : Dev nD) : Dat τ (Elt F) Unit ℕ UA ℕ cfg0 c where
  A w := m ((cfg0.win w).arr.view.loc (c : Thread nD τ))
  after w _ := match w with
    | ⟨0, _⟩ => tabIn m c
    | ⟨1, _⟩ => xIn m c
    | ⟨2, _⟩ => xOut σ m c
  Φ t := match t with
    | ⟨0, _⟩ => pre0 σ m c
    | ⟨_ + 1, _⟩ => post0 m c
  q _ := fullShare
  owed t := match t with
    | ⟨0, _⟩ => debt σ c
    | ⟨_ + 1, _⟩ => 0

abbrev 𝒱₀ : Variants := Variants.none

/-- The grid's one point. -/
abbrev pt : Fin cfg0.N := t0_0

/-- A window over a whole array reads the array itself. -/
theorem block_table (f : (main_arg1 : Ref sig .tc).ty.Contents (Elt F)) : (win0_0.blk pt).view.read (Elt F) f = f := by
  funext x
  show f _ = f x
  exact congrArg f (funext fun a => Fin.ext (by fin_cases a; exact (Nat.zero_add _).trans (Nat.one_mul _)))
theorem block_x (f : (main_arg0 : Ref sig .tc).ty.Contents (Elt F)) : (win0_1.blk pt).view.read (Elt F) f = f := by
  funext x
  show f _ = f x
  exact congrArg f (funext fun a => Fin.ext (by fin_cases a <;> exact (Nat.zero_add _).trans (Nat.one_mul _)))
theorem block_out (f : (main_v1 : Ref sig .tc).ty.Contents (Elt F)) : (win0_2.blk pt).view.read (Elt F) f = f := by
  funext x
  show f _ = f x
  exact congrArg f (funext fun a => Fin.ext (by fin_cases a <;> exact (Nat.zero_add _).trans (Nat.one_mul _)))

/-- The body finds the table and the block of `x` in its staging buffers. -/
theorem before_table (c : Dev nD) (d) : (dats (F := F) σ m 0 c).before (0 : Fin 3) pt d = tabIn m c := by
  unfold Dat.before; rw [if_pos (fetch0_0 pt)]; exact block_table (F := F) _
theorem before_x (c : Dev nD) (d) : (dats (F := F) σ m 0 c).before (1 : Fin 3) pt d = xIn m c := by
  unfold Dat.before; rw [if_pos (fetch0_1 pt)]; exact block_x (F := F) _

omit [FloatOps F] in
/-- Owning a whole buffer's memref at contents `X` is owning the buffer at `X`. -/
theorem owns_whole_eq (c : Dev nD) (b : Ref sig .tc) (X : b.ty.Contents (Elt F)) :
    (owns (Ix := Unit) (Name := ℕ) (U := UA) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

section Body

variable (K : Dev nD × Fin 3 → ℕ)

/-- The whole block, as the kernel's accesses name it. -/
abbrev rAll : Rect S1x256x256 := Rect.unit (s := S1x256x256) ![0, 0, 0] S1x256x256.size inb_S1x256x256_S1x256x256_0_0_0

theorem zeros3 : (![0, 0, 0] : Fin 3 → Nat) = fun _ => 0 := funext fun a => by fin_cases a <;> rfl

omit [FloatOps F] in
theorem load_x (f : (cc0_stg1_0 : Ref sig .tc).ty.Contents (Elt F)) : (inM : Memref sig .tc .vmem S1x256x256 .bf16).view.readAt (Elt F) rAll.toLoadRect f = f :=
  Memref.readAt_unit_zero (Elt F) cc0_stg1_0 zeros3 _ f
omit [FloatOps F] in
theorem store_buf (f w : (cc0_scratch0 : Ref sig .tc).ty.Contents (Elt F)) :
    ((bufM : Memref sig .tc .vmem S1x256x256 .bf16).access rAll : View sig .tc _ _ _).write (Elt F) f w Finset.univ = w :=
  Memref.write_access_unit_zero_univ (Elt F) cc0_scratch0 zeros3 _ f w

/-- The first signal, addressed to a device that is `σ.symm c`: it hands over the device's own result buffer. -/
theorem signal_source (c n : Dev nD) (hn : n = σ.symm c) (W : Waits sig Unit)
    {α : Type} {Q : α → sProp 𝕄} {k : PUnit → Prog (TpuEff nD τ sig (Elt F) Λ₀ .tc) α} :
    iprop(cellInv EK (sched σ m) (K (σ.symm c, 0)) (barCell (σ.symm c)) ∗ owes (c : Thread nD τ) (debt σ c) W
        ∗ dutyTok EK (barCell (σ.symm c)) 0 true ∗ ((∃ f, outAt c f) ∗ reached EK (recvCell c) 0) ∗ reached EK (barCell (σ.symm c)) 0)
      ⊢ iprop((owes (c : Thread nD τ) (debt₁ σ c) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n) barS (1#32).toInt) k) Q) := by
  subst hn
  iintro ⟨HI, HO, Ht, ⟨Hout, Hv⟩, Hr⟩ Hk
  iapply (Rounds.wp_signal 𝒱₀ EK (sched σ m) (c : Thread nD τ) none (dst := (σ.symm c : Thread nD τ)) (κ := K (σ.symm c, 0))
      (d := true) (by rw [duties_bar]; exact Finset.mem_univ _) ((amount_bar σ m (σ.symm c) true).trans (by decide)) () (O₀ := debt σ c) (debt₁ σ c) rfl)
    $$ [HI HO Ht Hout Hv Hr]
  · isplitl [HI]; · iexact HI
    isplitl [HO]; · iexact HO
    isplitl [Ht]; · iexact Ht
    isplitl [Hout Hv]
    · rw [payload_bar_true]; unfold readyPay; rw [Equiv.apply_symm_apply]
      isplitl [Hout]; · iexact Hout
      iexact Hv
    iexact Hr
  iexact Hk

/-- The second signal, addressed to a device that is `σ c`: it hands over nothing. -/
theorem signal_dest (c n : Dev nD) (hn : n = σ c) (W : Waits sig Unit)
    {α : Type} {Q : α → sProp 𝕄} {k : PUnit → Prog (TpuEff nD τ sig (Elt F) Λ₀ .tc) α} :
    iprop(cellInv EK (sched σ m) (K (σ c, 0)) (barCell (σ c)) ∗ owes (c : Thread nD τ) (debt₁ σ c) W
        ∗ dutyTok EK (barCell (σ c)) 0 false ∗ reached EK (barCell (σ c)) 0)
      ⊢ iprop((owes (c : Thread nD τ) (tallyAt (recvCell (σ c)) () blockCredit) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n) barS (1#32).toInt) k) Q) := by
  subst hn
  iintro ⟨HI, HO, Ht, Hr⟩ Hk
  iapply (Rounds.wp_signal 𝒱₀ EK (sched σ m) (c : Thread nD τ) none (dst := (σ c : Thread nD τ)) (κ := K (σ c, 0))
      (d := false) (by rw [duties_bar]; exact Finset.mem_univ _) ((amount_bar σ m (σ c) false).trans (by decide)) () (O₀ := debt₁ σ c)
      (tallyAt (recvCell (σ c)) () blockCredit) rfl)
    $$ [HI HO Ht Hr]
  · isplitl [HI]; · iexact HI
    isplitl [HO]; · iexact HO
    isplitl [Ht]; · iexact Ht
    isplitr; · rw [payload_bar_false]; iempintro
    iexact Hr
  iexact Hk

/-- The transfer, addressed to a device that is `σ c`: the arrival leaves that device's result in its result buffer. -/
theorem transfer (c n : Dev nD) (hn : n = σ c) {hsc : (outM : Memref sig (Dev.tc n : Thread nD τ).2.kind .vmem S1x256x256 .bf16).view.ref.isScScratch = false}
    {hsrc : (bufM : Memref sig .tc .vmem S1x256x256 .bf16).view.WordExact} {hdst : (outM : Memref sig .tc .vmem S1x256x256 .bf16).view.WordExact}
    {hsem : DmaTarget.Typed .vmem (.dma recvS) (.remote (Dev.tc n : Thread nD τ) (outM : Memref sig .tc .vmem S1x256x256 .bf16) (.dma sendS) hsc)}
    {α : Type} {Q : α → sProp 𝕄} {k : PUnit → Prog (TpuEff nD τ sig (Elt F) Λ₀ .tc) α}
    (fn : Buf (Elt F) ((outM : Memref sig .tc .vmem S1x256x256 .bf16).view.loc (σ c : Thread nD τ))) (W : Waits sig Unit) :
    iprop(cellInv EK (sched σ m) (K (c, 1)) (sendCell c) ∗ cellInv EK (sched σ m) (K (σ c, 2)) (recvCell (σ c))
        ∗ bufAt c (xIn m c) ∗ outAt (σ c) fn
        ∗ owes (c : Thread nD τ) (tallyAt (recvCell (σ c)) () blockCredit) W
        ∗ dutyTok EK (sendCell c) 0 false ∗ reached EK (sendCell c) 0
        ∗ dutyTok EK (recvCell (σ c)) 0 false ∗ reached EK (recvCell (σ c)) 0)
      ⊢ iprop(((cred (tallyAt (sendCell c) () blockCredit) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma bufM (.remote (Dev.tc n : Thread nD τ) outM (.dma sendS) hsc) (.dma recvS) hsrc hdst hsem) k) Q) := by
  subst hn
  unfold bufAt outAt
  exact Rounds.wp_send_pointsTo 𝒱₀ EK (sched σ m) (c : Thread nD τ) none (κ₁ := K (c, 1)) (κ₂ := K (σ c, 2))
    (r₁ := 0) (r₂ := 0) (d₁ := false) (d₂ := false) (fd := fn)
    (by rw [duties_send]; exact Finset.mem_singleton_self _) (by rw [duties_recv]; exact Finset.mem_singleton_self _)
    () () blockCredit rfl (amount_send σ m c false) (amount_recv σ m (σ c) false) 0 (by rw [zero_add]) (W := W)
    (by rw [payload_send]; exact BI.Entails.refl _)
    (by rw [payload_recv]; unfold recvPay outAt; rw [landed]; unfold xOut; rw [Equiv.symm_apply_apply])

/-- A staging buffer whole at contents `X`. -/
abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is given, -/
def given (c : Dev nD) : sProp 𝕄 :=
  iprop((share σ m K c ∗ cred (tallyAt (barCell c) () 2) ∗ cred (tallyAt (recvCell c) () blockCredit) ∗ levAts cnt lev ∗ ∃ f, bufAt c f)
    ∗ (dats σ m 0 c).owesAt () pt.castSucc
    ∗ (∃ d, staged c cc0_stg0_0 ((dats σ m 0 c).before (0 : Fin 3) pt d))
    ∗ (∃ d, staged c cc0_stg1_0 ((dats σ m 0 c).before (1 : Fin 3) pt d))
    ∗ (∃ d, staged c cc0_stg2_0 ((dats σ m 0 c).before (2 : Fin 3) pt d)))
/-- and what it leaves. -/
def left (c : Dev nD) : sProp 𝕄 :=
  iprop(post0 m c ∗ (dats σ m 0 c).owesAt () pt.succ ∗ staged c cc0_stg0_0 (tabIn m c) ∗ staged c cc0_stg1_0 (xIn m c) ∗ staged c cc0_stg2_0 (xOut σ m c))

set_option maxHeartbeats 4000000 in
/-- The body on device `c`, when the tables are `σ`'s. -/
theorem body_run (hσ : TableOf σ m) (c : Dev nD) (Kt : PUnit → sProp 𝕄) :
    iprop(given σ m K c ∗ (left σ m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Kt := by
  simp only [cc0_body_eq_skeleton]; unfold cc0_body_skel
  simp only [k0_part1_eq_skeleton]; unfold k0_part1_skel
  simp only [semSignalWord, semWaitWord, smemLoad, smemLoadElt, Prog.lift, Prog.bind_op, Prog.bind_ret, Prog.pure_eq_ret, Prog.bind_assoc, wp_deviceId]
  unfold given share known
  iintro ⟨⟨⟨⟨⟨#HIb, #HIs, #HIv, #HIbS, #HIbD, #HIvD⟩, HatB, HatS, HatV, #HrBS, #HrBD, #HrVD, #HrS, #HrV, HtBS, HtBD, HtVD, HtS⟩, HcB, HcV, #Hlev, ⟨%fb, Hbuf⟩⟩,
    Ho, ⟨%d0, %g0, %hg0, Htab⟩, ⟨%d1, %g1, %hg1, Hin⟩, ⟨%d2, %g2, %hg2, Hout⟩⟩, Hk⟩
  rw [before_table] at hg0
  rw [before_x] at hg1
  subst hg0 hg1
  unfold Dat.owesAt Pipeline.owesWithin
  icases Ho with ⟨%W, %hW, HO⟩
  rw [show (dats σ m 0 c).owed pt.castSucc = debt σ c from rfl]
  -- the word at the device's own position, and the check that it names a device
  iapply (wp_load_rect 𝒱₀ (c : Thread nD τ) none Set.univ (m := tabM) (r := rOwn c) (Finset.subset_univ _)) $$ Htab; iintro Htab
  simp only [wp_assume_of _ _ _ _ (d := k0_chk2.dec _) (hσ.chk c)]
  -- the four words of the search, and its check
  iapply (wp_load_rect 𝒱₀ (c : Thread nD τ) none Set.univ (m := tabM) (r := rAt0) (Finset.subset_univ _)) $$ Htab; iintro Htab
  iapply (wp_load_rect 𝒱₀ (c : Thread nD τ) none Set.univ (m := tabM) (r := rAt1) (Finset.subset_univ _)) $$ Htab; iintro Htab
  iapply (wp_load_rect 𝒱₀ (c : Thread nD τ) none Set.univ (m := tabM) (r := rAt2) (Finset.subset_univ _)) $$ Htab; iintro Htab
  iapply (wp_load_rect 𝒱₀ (c : Thread nD τ) none Set.univ (m := tabM) (r := rAt3) (Finset.subset_univ _)) $$ Htab; iintro Htab
  simp only [wp_assume_of _ _ _ _ (d := k0_chk1.dec _ _ _ _ _) (k0_chk1_all c (w0 (tabIn m c)) (w1 (tabIn m c)) (w2 (tabIn m c)) (w3 (tabIn m c)))]
  -- the copy into the send buffer
  ihave Hbuf := (Entails.of_eq (bufAt_eq c fb)) $$ Hbuf
  iapply (wp_load 𝒱₀ (c : Thread nD τ) none Set.univ (m := inM) (Finset.subset_univ _)) $$ Hin; iintro Hin
  rw [load_x]
  iapply (wp_load 𝒱₀ (c : Thread nD τ) none Set.univ (m := bufM) (Finset.subset_univ _)) $$ Hbuf; iintro Hbuf
  iapply (wp_store 𝒱₀ (c : Thread nD τ) none Set.univ (m := bufM) (r := rAll) (Mk := Finset.univ) (Finset.subset_univ _)) $$ Hbuf; iintro Hbuf
  rw [store_buf, pay_eq]
  -- the two signals
  ihave Hout' := (Entails.of_eq (outAt_eq c g2).symm) $$ Hout
  iapply (signal_source σ m K c _ (hσ.dev1 c (k0_chk1_all c _ _ _ _)) W) $$ [HO HtBS Hout']
  · isplitr; · iexact HIbS
    isplitl [HO]; · iexact HO
    isplitl [HtBS]; · iexact HtBS
    isplitl [Hout']
    · isplitl; · iexists g2; iexact Hout'
      iexact HrV
    iexact HrBS
  iintro HO
  iapply (signal_dest σ m K c _ (hσ.dev2 c (hσ.chk c)) W) $$ [HO HtBD]
  · isplitr; · iexact HIbD
    isplitl [HO]; · iexact HO
    isplitl [HtBD]; · iexact HtBD
    iexact HrBD
  iintro HO
  -- the wait for both partners: the destination's result buffer comes with it
  iapply (Rounds.wp_wait_rest_token 𝒱₀ EK (sched σ m) (c : Thread nD τ) none (κ := K (c, 0))
      (wpE_semWait_eq 𝒱₀ (c : Thread nD τ) none Set.univ) (Set.mem_univ _) () (O := tallyAt (recvCell (σ c)) () blockCredit) (W := W) (R := 0) (m := 0) (T := ∅)
      (by rw [expect_bar]; decide)) $$ [HcB HO HatB]
  · isplitr; · iexact HIb
    isplitl [HcB]; · iexact HcB
    isplitl [HO]; · iexact HO
    isplitr; · iapply (mayWait_bar σ c); iexact Hlev
    iexact HatB
  iintro ⟨HO, HatB, -, Hpay⟩
  ihave Hp := (Entails.of_eq (all_bar σ m c)) $$ Hpay
  unfold readyPay
  icases Hp with ⟨-, ⟨%fn, HoutD⟩, -⟩
  -- the transfer
  ihave Hbuf' := (Entails.of_eq (bufAt_eq c (xIn m c)).symm) $$ Hbuf
  iapply (transfer σ m K c _ (hσ.dev3 c (hσ.chk c)) fn (insert (SemLoc.reg barS, ()) W)) $$ [Hbuf' HoutD HO HtS HtVD]
  · isplitr; · iexact HIs
    isplitr; · iexact HIvD
    isplitl [Hbuf']; · iexact Hbuf'
    isplitl [HoutD]; · iexact HoutD
    isplitl [HO]; · iexact HO
    isplitl [HtS]; · iexact HtS
    isplitr; · iexact HrS
    isplitl [HtVD]; · iexact HtVD
    iexact HrVD
  iintro ⟨HcS, HO⟩
  -- the wait for the sending end: the send buffer is back
  iapply (Rounds.wp_wait_rest_token 𝒱₀ EK (sched σ m) (c : Thread nD τ) none (κ := K (c, 1))
      (wpE_waitDma2_eq 𝒱₀ (c : Thread nD τ) none Set.univ) (Set.mem_univ _) () (O := 0) (W := insert (SemLoc.reg barS, ()) W) (R := 0) (m := 0) (T := ∅)
      (by rw [Nat.zero_add, expect_send])) $$ [HcS HO HatS]
  · isplitr; · iexact HIs
    isplitl [HcS]; · iexact HcS
    isplitl [HO]; · iexact HO
    isplitr; · rw [MayWait_zero]; iempintro
    iexact HatS
  iintro ⟨HO, HatS, -, Hpay⟩
  ihave Hbuf := (Entails.of_eq (all_send σ m c)) $$ Hpay
  -- the wait for the arrival: the result buffer is back, holding the source's block
  iapply (Rounds.wp_wait_rest_token 𝒱₀ EK (sched σ m) (c : Thread nD τ) none (κ := K (c, 2))
      (wpE_waitDma2_eq 𝒱₀ (c : Thread nD τ) none Set.univ) (Set.mem_univ _) () (O := 0)
      (W := insert (SemLoc.dma sendS, ()) (insert (SemLoc.reg barS, ()) W)) (R := 0) (m := 0) (T := ∅)
      (by rw [Nat.zero_add, expect_recv])) $$ [HcV HO HatV]
  · isplitr; · iexact HIv
    isplitl [HcV]; · iexact HcV
    isplitl [HO]; · iexact HO
    isplitr; · rw [MayWait_zero]; iempintro
    iexact HatV
  iintro ⟨HO, HatV, -, Hpay⟩
  ihave Hout := (Entails.of_eq ((all_recv σ m c).trans (outAt_eq c (xOut σ m c)))) $$ Hpay
  -- the cells close at zero
  imod (Rounds.cell_close EK (sched σ m) (Set.mem_univ (K (c, 1))) (fun h => h) (R := 0 + 1) (duties_done σ m (sendCell c))) $$ [HatS] with HzS
  · isplitr; · iexact HIs
    iexact HatS
  imod (Rounds.cell_close EK (sched σ m) (Set.mem_univ (K (c, 2))) (fun h => h) (R := 0 + 1) (duties_done σ m (recvCell c))) $$ [HatV] with HzV
  · isplitr; · iexact HIv
    iexact HatV
  imod (Rounds.cell_close EK (sched σ m) (Set.mem_univ (K (c, 0))) (fun h => h) (R := 0 + 1) (duties_done σ m (barCell c))) $$ [HatB] with HzB
  · isplitr; · iexact HIb
    iexact HatB
  rw [wp_ret]; imodintro
  iapply Hk
  unfold left post0 Dat.owesAt Pipeline.owesWithin
  rw [show (dats σ m 0 c).owed pt.succ = 0 from rfl]
  isplitl [Hbuf HzS HzV HzB]
  · isplitl [Hbuf]; · unfold sentPay; iexact Hbuf
    isplitl [HzS]; · iexact HzS
    isplitl [HzV] <;> iassumption
  isplitl [HO]
  · iexists (insert (SemLoc.dma recvS, ()) (insert (SemLoc.dma sendS, ()) (insert (SemLoc.reg barS, ()) W)))
    isplitr; · ipureintro; exact fun _ _ => Or.inl trivial
    iexact HO
  isplitl [Htab]
  · iexists _; isplitr; · (ipureintro; rfl)
    iexact Htab
  isplitl [Hin]
  · iexists _; isplitr; · (ipureintro; rfl)
    iexact Hin
  iexists _; isplitr; · (ipureintro; rfl)
  iexact Hout

set_option maxRecDepth 4000 in
/-- The pipeline's own form of what the body is given. -/
def given' (c : Dev nD) : sProp 𝕄 :=
  iprop(pre0 σ m c ∗ (dats σ m 0 c).owesAt () pt.castSucc
    ∗ (∃ d, staged c cc0_stg0_0 ((dats σ m 0 c).before (0 : Fin 3) pt d))
    ∗ (∃ d, staged c cc0_stg1_0 ((dats σ m 0 c).before (1 : Fin 3) pt d))
    ∗ (∃ d, staged c cc0_stg2_0 ((dats σ m 0 c).before (2 : Fin 3) pt d)))

set_option maxRecDepth 4000 in
/-- The pipeline's obligation on device `c`. -/
theorem body_sound (hσ : TableOf σ m) (c : Dev nD) : BodyObligation (dats (F := F) σ m 0 c) (defs₀ (F := F)) 𝒱₀ () Set.univ := fun t => by
  obtain rfl := fin_N0 t
  rw [bigSep_W0, bigSep_W0]
  simp only [owns_whole_eq]
  show given' σ m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _) cc0_scratch1 cc0_scratch2) (fun _ => left σ m c)
  unfold given' pre0 begin0
  iintro ⟨⟨⟨⟨%K, Hs⟩, ⟨H1, H2, H3⟩⟩, Hbuf⟩, Ho, Htab, Hin, Hout⟩
  iapply (body_run σ m K hσ c fun _ => left σ m c)
  unfold given
  isplitr []
  · isplitl [Hs H1 H2 H3 Hbuf]
    · isplitl [Hs]; · iexact Hs
      isplitl [H1]; · iexact H1
      isplitl [H2]; · iexact H2
      isplitl [H3]; · iexact H3
      iexact Hbuf
    isplitl [Ho]; · iexact Ho
    isplitl [Htab]; · iexact Htab
    isplitl [Hin] <;> iassumption
  · iintro H; iexact H

end Body

end Cert.KernelIdeal.Permute

end
-- ==== Proof.PermuteIdeal.Launch.lean ====
/-
# The permute kernel's launch on the four devices

`Launch` deals the ghost state of the twelve cells (three per device) to the devices that pay their duties, checks that the
credits of the launch are what the devices owe, and runs the launch theorem of the staging pipeline on `body_sound`.
Its result is `run`: when the tables are those of a permutation `σ`, every execution ends with device `c`'s result array
holding the block of `x` of device `σ.symm c`, the arguments unchanged, and every semaphore at zero.
-/
module

public import proofs.«01_k».proof.Proof.PermuteIdeal.Body
public import Idealize.ShloMosaic.Lib.Pipeline.CollectiveSegs

@[expose] public section

noncomputable section

namespace Cert.KernelIdeal.Permute

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UA ℕ

variable (σ : Equiv.Perm (Dev nD)) (m : (ℓ : Loc nD τ sig) → Buf (Elt F) ℓ) (ρ : Dev nD → PrngReg)

/-! ## The cells and their tokens -/

theorem scoped_facts : Pipeline.OwnSemFacts cfg0.spec scopedSem := by decide

theorem anySem_inj : Function.Injective anySem := by
  intro k k' h
  fin_cases k <;> fin_cases k' <;> first | rfl | exact absurd h (by decide)

theorem cell_inj : Function.Injective (cell : Dev nD × Fin 3 → GSem nD τ sig) := fun x y h =>
  Prod.ext (congrArg (fun g : GSem nD τ sig => g.1.1) h) (anySem_inj (congrArg (fun g : GSem nD τ sig => g.2) h))
/-- The twelve cells of the protocol. -/
def allCells : Finset (GSem nD τ sig) := Finset.univ.map ⟨cell, cell_inj⟩

/-- The four duties of a device's three cells: which cell, and which of its duties. -/
abbrev duty : Fin 4 → Fin 3 × Bool := fun | 0 => (0, true) | 1 => (0, false) | 2 => (2, false) | 3 => (1, false)
theorem duty_inj : Function.Injective duty := by decide
/-- A duty's token, at its device. -/
abbrev tok (x : Dev nD × Fin 4) : GSem nD τ sig × ℕ × Bool := (cell (x.1, (duty x.2).1), 0, (duty x.2).2)
theorem tok_inj : Function.Injective (tok : Dev nD × Fin 4 → GSem nD τ sig × ℕ × Bool) := fun x y h => by
  have hc := cell_inj (congrArg (fun t : GSem nD τ sig × ℕ × Bool => t.1) h)
  exact Prod.ext (congrArg (fun z : Dev nD × Fin 3 => z.1) hc)
    (duty_inj (Prod.ext (congrArg (fun z : Dev nD × Fin 3 => z.2) hc) (congrArg (fun t : GSem nD τ sig × ℕ × Bool => t.2.2) h)))
/-- All sixteen tokens. -/
def allToks : Finset (GSem nD τ sig × ℕ × Bool) := Finset.univ.map ⟨tok, tok_inj⟩

/-- The ghost state at launch: the staging pipeline's, and this protocol's. -/
def ghost0 : UA := (initOf (Pipeline.cells cfgs cellOf_inj) (Pipeline.launchToks cfgs cellOf_inj), initOf allCells allToks)

/-- The tokens of device `c`'s own cells; -/
def ownToks (c : Dev nD) : sProp 𝕄 :=
  iprop(dutyTok EK (barCell c) 0 true ∗ dutyTok EK (barCell c) 0 false ∗ dutyTok EK (recvCell c) 0 false ∗ dutyTok EK (sendCell c) 0 false)
/-- the tokens of the duties that it pays: of its source's barrier, its destination's barrier and arrival, its own send. -/
def payToks (c : Dev nD) : sProp 𝕄 :=
  iprop(dutyTok EK (barCell (σ.symm c)) 0 true ∗ dutyTok EK (barCell (σ c)) 0 false ∗ dutyTok EK (recvCell (σ c)) 0 false ∗ dutyTok EK (sendCell c) 0 false)

/-- What the launch deals device `c`: its cells' states, its positions at round 0, its cells' tokens; -/
def dealt (c : Dev nD) : sProp 𝕄 :=
  iprop((bigSep Finset.univ fun k : Fin 3 => roundState EK (sched σ m) (cell (c, k)) 0)
    ∗ (bigSep Finset.univ fun k : Fin 3 => iprop(atPos EK (cell (c, k)) 0 ∅ 0 ∗ reached EK (cell (c, k)) 0)) ∗ ownToks c)
/-- what the devices make of it together. -/
def ready (c : Dev nD) : sProp 𝕄 := iprop(∃ K, share σ m K c)

omit [FloatOps F] in
theorem over3 (Φ : Fin 3 → sProp 𝕄) : bigSep Finset.univ Φ = iprop(Φ 0 ∗ Φ 1 ∗ Φ 2) := bigSep_univ_eq_bigSepL [0, 1, 2] (by decide) (by decide) Φ
omit [FloatOps F] in
theorem over4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
/-- A conjunction over the cells, device by device; -/
theorem over_cells (Φ : GSem nD τ sig → sProp 𝕄) :
    bigSep allCells Φ = bigSep Finset.univ fun c : Dev nD => bigSep Finset.univ fun k : Fin 3 => Φ (cell (c, k)) := by
  unfold allCells; rw [bigSep_map, bigSep_univ_prod]; rfl
omit [FloatOps F] in
/-- over the tokens. -/
theorem over_toks : bigSep allToks (fun x => (dutyTok EK x.1 x.2.1 x.2.2 : sProp 𝕄)) = bigSep Finset.univ fun c : Dev nD => ownToks c := by
  unfold allToks; rw [bigSep_map, bigSep_univ_prod]
  exact bigSep_congr fun c _ => by unfold ownToks; rw [over4]; rfl

omit [FloatOps F] in
/-- The protocol's launch element funds every device's deal. -/
theorem deal : BI.own (EK (initOf allCells allToks)) ⊢ (|==> bigSep Finset.univ (dealt σ m) : sProp 𝕄) := by
  iintro HX
  imod (Rounds.fund EK (sched σ m) allCells allToks) $$ HX with ⟨Hst, Hr, Hat, Htok⟩
  imodintro
  ihave Hst := (Entails.of_eq (over_cells fun g => roundState EK (sched σ m) g 0)) $$ Hst
  ihave Hat := (Entails.of_eq (over_cells fun g => atPos EK g 0 ∅ 0)) $$ Hat
  ihave Hr := (Entails.of_eq (over_cells fun g => reached EK g 0)) $$ Hr
  ihave Htok := (Entails.of_eq over_toks) $$ Htok
  unfold dealt; simp only [bigSep_sep']
  isplitl [Hst]; · iexact Hst
  isplitl [Hat Hr]
  · isplitl [Hat] <;> iassumption
  iexact Htok

/-! ## The semaphores at zero -/

omit [FloatOps F] in
theorem scopedSems_eq0 (c : Dev nD) : (Pipeline.ownSems0 (Ix := Unit) (Name := ℕ) (U := UA) (Lvl := ℕ) (Val := Elt F) (τ := τ) scopedSem c : sProp 𝕄)
    = iprop(semVal (sendCell c) 0 ∗ semVal (recvCell c) 0) := by
  rw [Pipeline.ownSems0_eq_of_list c scopedSem [0, 1] (by decide) (by decide)]; rfl
omit [FloatOps F] in
theorem barSem_eq0 (c : Dev nD) : (unscopedSems0 c : sProp 𝕄) = semVal (barCell c) 0 := by
  unfold unscopedSems0; rw [bigSep_eq_bigSepL_of_eq [SemLoc.reg barS] (by decide) (by decide)]; rfl

omit [FloatOps F] in
theorem sems_at_zero (c : Dev nD) :
    iprop(Pipeline.ownSems0 (Ix := Unit) (Name := ℕ) (U := UA) (Lvl := ℕ) (Val := Elt F) (τ := τ) scopedSem c ∗ unscopedSems0 c)
      ⊢ (bigSep Finset.univ fun k : Fin 3 => semVal (cell (c, k)) 0 : sProp 𝕄) := by
  rw [scopedSems_eq0, barSem_eq0, over3]
  iintro ⟨⟨HS, HV⟩, HB⟩
  isplitl [HB]; · iexact HB
  isplitl [HS] <;> iassumption

/-! ## The invariants, and the tokens dealt to the devices that pay -/

omit [FloatOps F] in
/-- A device makes the invariants of its three cells. -/
theorem make_invs (c : Dev nD) :
    iprop(Pipeline.ownSems0 (Ix := Unit) (Name := ℕ) (U := UA) (Lvl := ℕ) (Val := Elt F) (τ := τ) scopedSem c ∗ unscopedSems0 c ∗ dealt σ m c)
      ⊢ |={Set.univ}=> iprop((bigSep Finset.univ fun k => iprop(∃ κ : ℕ, cellInv EK (sched σ m) κ (cell (c, k))))
          ∗ (bigSep Finset.univ fun k => iprop(atPos EK (cell (c, k)) 0 ∅ 0 ∗ reached EK (cell (c, k)) 0)) ∗ ownToks c) := by
  have alloc : iprop((bigSep Finset.univ fun k : Fin 3 => semVal (cell (c, k)) 0) ∗ bigSep Finset.univ fun k : Fin 3 => roundState EK (sched σ m) (cell (c, k)) 0)
      ⊢ (|={Set.univ}=> bigSep Finset.univ fun k => iprop(∃ κ : ℕ, cellInv EK (sched σ m) κ (cell (c, k))) : sProp 𝕄) := by
    rw [← bigSep_sep']
    exact (bigSep_mono fun k _ => (Rounds.body_intro EK (sched σ m) (cell (c, k))).trans inv_alloc).trans (bigSep_fupd _ _)
  unfold dealt
  iintro ⟨Hos, Hus, Hst, Hat, Htok⟩
  ihave Hv := (sems_at_zero (F := F) c) $$ [Hos Hus]
  · isplitl [Hos] <;> iassumption
  imod alloc $$ [Hv Hst] with Hinv
  · isplitl [Hv] <;> iassumption
  imodintro
  isplitl [Hinv]; · iexact Hinv
  isplitl [Hat]; · iexact Hat
  iexact Htok

/-- What every device may know: the invariant of every cell, and that every cell is at round 0. -/
def facts0 (K : Dev nD × Fin 3 → ℕ) : sProp 𝕄 :=
  iprop((bigSep Finset.univ fun x : Dev nD × Fin 3 => cellInv EK (sched σ m) (K x) (cell x))
    ∗ bigSep Finset.univ fun x : Dev nD × Fin 3 => reached EK (cell x) 0)

instance facts0_persistent (K : Dev nD × Fin 3 → ℕ) : BI.Persistent (facts0 σ m K) := by unfold facts0; infer_instance

omit [FloatOps F] in
theorem facts0_inv (K : Dev nD × Fin 3 → ℕ) (x : Dev nD × Fin 3) : facts0 σ m K ⊢ cellInv EK (sched σ m) (K x) (cell x) := by
  have one : (bigSep Finset.univ fun y : Dev nD × Fin 3 => (cellInv EK (sched σ m) (K y) (cell y) : sProp 𝕄)) ⊢ cellInv EK (sched σ m) (K x) (cell x) :=
    bigSep_elim (Finset.mem_univ x)
  unfold facts0
  iintro ⟨HI, -⟩
  iapply one; iexact HI
omit [FloatOps F] in
theorem facts0_reached (K : Dev nD × Fin 3 → ℕ) (x : Dev nD × Fin 3) : facts0 σ m K ⊢ reached EK (cell x) 0 := by
  have one : (bigSep Finset.univ fun y : Dev nD × Fin 3 => (reached EK (cell y) 0 : sProp 𝕄)) ⊢ reached EK (cell x) 0 := bigSep_elim (Finset.mem_univ x)
  unfold facts0
  iintro ⟨-, HR⟩
  iapply one; iexact HR

/-- What stays with device `c`: its positions and the tokens it pays with. -/
def kept (c : Dev nD) : sProp 𝕄 :=
  iprop((atPos EK (barCell c) 0 ∅ 0 ∗ atPos EK (sendCell c) 0 ∅ 0 ∗ atPos EK (recvCell c) 0 ∅ 0) ∗ payToks σ c)

omit [FloatOps F] in
theorem ready_intro (K : Dev nD × Fin 3 → ℕ) (c : Dev nD) : iprop(facts0 σ m K ∗ kept σ c) ⊢ ready σ m c := by
  unfold kept payToks ready share known
  iintro ⟨#H, ⟨HaB, HaS, HaV⟩, HtBS, HtBD, HtVD, HtS⟩
  iexists K
  isplitr
  · isplitr; · iapply (facts0_inv σ m K (c, 0)); iexact H
    isplitr; · iapply (facts0_inv σ m K (c, 1)); iexact H
    isplitr; · iapply (facts0_inv σ m K (c, 2)); iexact H
    isplitr; · iapply (facts0_inv σ m K (σ.symm c, 0)); iexact H
    isplitr; · iapply (facts0_inv σ m K (σ c, 0)); iexact H
    iapply (facts0_inv σ m K (σ c, 2)); iexact H
  isplitl [HaB]; · iexact HaB
  isplitl [HaS]; · iexact HaS
  isplitl [HaV]; · iexact HaV
  isplitr; · iapply (facts0_reached σ m K (σ.symm c, 0)); iexact H
  isplitr; · iapply (facts0_reached σ m K (σ c, 0)); iexact H
  isplitr; · iapply (facts0_reached σ m K (σ c, 2)); iexact H
  isplitr; · iapply (facts0_reached σ m K (c, 1)); iexact H
  isplitr; · iapply (facts0_reached σ m K (c, 2)); iexact H
  isplitl [HtBS]; · iexact HtBS
  isplitl [HtBD]; · iexact HtBD
  isplitl [HtVD]; · iexact HtVD
  iexact HtS

omit [FloatOps F] in
/-- Along `σ` and its inverse the tokens of all cells are the tokens that all devices pay. -/
theorem redeal : (bigSep Finset.univ fun c : Dev nD => (ownToks c : sProp 𝕄)) ⊢ bigSep Finset.univ fun c : Dev nD => payToks σ c := by
  unfold ownToks payToks
  rw [bigSep_sep', bigSep_sep', bigSep_sep', bigSep_sep', bigSep_sep', bigSep_sep',
    bigSep_univ_equiv σ.symm (fun c : Dev nD => (dutyTok EK (barCell c) 0 true : sProp 𝕄)),
    bigSep_univ_equiv σ (fun c : Dev nD => (dutyTok EK (barCell c) 0 false : sProp 𝕄)),
    bigSep_univ_equiv σ (fun c : Dev nD => (dutyTok EK (recvCell c) 0 false : sProp 𝕄))]

omit [FloatOps F] in
/-- A persistent fact can be given to every conjunct. -/
theorem give_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem share_out :
    (bigSep Finset.univ fun c : Dev nD => iprop((bigSep Finset.univ fun k => iprop(∃ κ : ℕ, cellInv EK (sched σ m) κ (cell (c, k))))
          ∗ (bigSep Finset.univ fun k => iprop(atPos EK (cell (c, k)) 0 ∅ 0 ∗ reached EK (cell (c, k)) 0)) ∗ ownToks c) : sProp 𝕄)
      ⊢ bigSep Finset.univ (ready σ m) := by
  rw [bigSep_sep', bigSep_sep', ← bigSep_univ_prod (fun x : Dev nD × Fin 3 => iprop(∃ κ : ℕ, cellInv EK (sched σ m) κ (cell x))),
    bigSep_congr (s := Finset.univ) (fun (c : Dev nD) _ => bigSep_sep' Finset.univ (fun k : Fin 3 => (atPos EK (cell (c, k)) 0 ∅ 0 : sProp 𝕄)) (fun k => reached EK (cell (c, k)) 0)),
    bigSep_sep', ← bigSep_univ_prod (fun x : Dev nD × Fin 3 => (reached EK (cell x) 0 : sProp 𝕄))]
  have positions : iprop((bigSep Finset.univ fun c : Dev nD => bigSep Finset.univ fun k : Fin 3 => (atPos EK (cell (c, k)) 0 ∅ 0 : sProp 𝕄))
      ∗ bigSep Finset.univ (payToks (F := F) σ)) ⊢ (bigSep Finset.univ (kept σ) : sProp 𝕄) := by
    rw [← bigSep_sep']
    exact bigSep_mono fun c _ => show _ ⊢ kept σ c from Entails.of_eq (by unfold kept; rw [over3])
  iintro ⟨HI, ⟨Hat, #HR⟩, Htok⟩
  ihave HK := (BI.bigSep_exists_pi Finset.univ (fun (x : Dev nD × Fin 3) (κ : ℕ) => (cellInv EK (sched σ m) κ (cell x) : sProp 𝕄))) $$ HI
  icases HK with ⟨%K, #HI⟩
  ihave Hpay := (redeal (F := F) σ) $$ Htok
  iapply (give_all (R := facts0 σ m K) fun c _ => ready_intro σ m K c)
  isplitr
  · unfold facts0; isplitl; · iexact HI
    iexact HR
  · iapply positions
    isplitl [Hat] <;> iassumption

omit [FloatOps F] in
/-- The launch's global step: from every device's semaphores and deal to every device's ghost state. -/
theorem set_up : (bigSep Finset.univ fun c => iprop(Pipeline.ownSems0 (Ix := Unit) (Name := ℕ) (U := UA) (Lvl := ℕ) (Val := Elt F) (τ := τ) scopedSem c ∗ unscopedSems0 c ∗ dealt σ m c) : sProp 𝕄)
    ⊢ |={Set.univ}=> bigSep Finset.univ (ready σ m) :=
  ((bigSep_mono fun c _ => make_invs σ m c).trans (bigSep_fupd _ _)).trans (BI.fupd_mono (share_out σ m))

/-! ## The launch's credits -/

omit [FloatOps F] in
theorem bar_inj {a b : Dev nD} (h : barCell a = barCell b) : a = b := congrArg (fun g : GSem nD τ sig => g.1.1) h
omit [FloatOps F] in
theorem recv_inj {a b : Dev nD} (h : recvCell a = recvCell b) : a = b := congrArg (fun g : GSem nD τ sig => g.1.1) h

omit [FloatOps F] in
/-- Device `d` owes device `c`'s barrier cell one unit if `d` is `c`'s source, and one if `d` is its destination. -/
theorem debt_bar (d c : Dev nD) : debt σ d (barCell c) () = (if d = σ.symm c then 1 else 0) + (if d = σ c then 1 else 0) := by
  have e1 : (barCell c = barCell (σ d) ∧ () = ()) ↔ d = σ.symm c :=
    ⟨fun h => (σ.symm_apply_eq.mpr (bar_inj h.1)).symm, fun h => ⟨by rw [h, Equiv.apply_symm_apply], rfl⟩⟩
  have e2 : (barCell c = barCell (σ.symm d) ∧ () = ()) ↔ d = σ c :=
    ⟨fun h => (σ.eq_symm_apply.mp (bar_inj h.1)).symm, fun h => ⟨by rw [h, Equiv.symm_apply_apply], rfl⟩⟩
  unfold debt debt₁
  rw [Pi.add_apply, Finsupp.add_apply, Pi.add_apply, Finsupp.add_apply, tallyAt_ne_cell (fun h => recv_ne_bar (congrArg Prod.snd h).symm),
    tallyAt_apply, tallyAt_apply, Finsupp.zero_apply, Nat.zero_add, if_congr e1 rfl rfl, if_congr e2 rfl rfl]

omit [FloatOps F] in
/-- It owes device `c`'s receive cell one block if it is `c`'s source. -/
theorem debt_recv (d c : Dev nD) : debt σ d (recvCell c) () = if d = σ.symm c then blockCredit else 0 := by
  have e1 : (recvCell c = recvCell (σ d) ∧ () = ()) ↔ d = σ.symm c :=
    ⟨fun h => (σ.symm_apply_eq.mpr (recv_inj h.1)).symm, fun h => ⟨by rw [h, Equiv.apply_symm_apply], rfl⟩⟩
  unfold debt debt₁
  rw [Pi.add_apply, Finsupp.add_apply, Pi.add_apply, Finsupp.add_apply, tallyAt_apply,
    tallyAt_ne_cell (fun h => recv_ne_bar (congrArg Prod.snd h)), tallyAt_ne_cell (fun h => recv_ne_bar (congrArg Prod.snd h)),
    Finsupp.zero_apply, Nat.add_zero, Nat.add_zero, if_congr e1 rfl rfl]

omit [FloatOps F] in
theorem credit_bar (c : Dev nD) :
    tallyOn (barCell c) (launchCredit (Pipeline.owing (debt σ)) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => debt_bar σ d c, Finset.sum_add_distrib,
    Finset.sum_ite_eq' Finset.univ (σ.symm c) fun _ => 1, Finset.sum_ite_eq' Finset.univ (σ c) fun _ => 1, if_pos (Finset.mem_univ _), if_pos (Finset.mem_univ _)]
omit [FloatOps F] in
theorem credit_recv (c : Dev nD) :
    tallyOn (recvCell c) (launchCredit (Pipeline.owing (debt σ)) 0 (recvCell c)) = (tallyAt (recvCell c) () blockCredit : CellTallies nD τ sig Unit) := by
  unfold tallyAt; refine congrArg _ (Finsupp.ext fun u => ?_); cases u
  rw [Pipeline.launchCredit_owing, Finsupp.single_eq_same, Finset.sum_congr rfl fun d _ => debt_recv σ d c,
    Finset.sum_ite_eq' Finset.univ (σ.symm c) fun _ => blockCredit, if_pos (Finset.mem_univ _)]

omit [FloatOps F] in
/-- A device's launch credit holds its barrier's two units and its arrival. -/
theorem credits (c : Dev nD) :
    (Pipeline.launchCred (debt σ) c : sProp 𝕄) ⊢ iprop(cred (tallyAt (barCell c) () 2) ∗ cred (tallyAt (recvCell c) () blockCredit)) := by
  unfold Pipeline.launchCred
  rw [bigSep_univ_at _ (SemLoc.reg barS), credit_bar]
  refine sep_mono_right ?_
  rw [← credit_recv σ]
  exact bigSep_elim (Finset.mem_erase.mpr ⟨recv_ne_bar, Finset.mem_univ _⟩)

/-! ## The launch theorem's remaining conditions -/

theorem share_full (c : Dev nD) (w : Fin cfg0.W) : (dats σ m 0 c).share w = fullShare := by unfold Dat.share; split <;> rfl

omit [FloatOps F] in
theorem enter (c : Dev nD) :
    iprop(Pipeline.unscopedRestP Pipeline.Prefetch.none cfg0.spec c (fun b => m ((c : Thread nD τ).loc b)) ∗ levAts cnt lev
        ∗ Pipeline.launchCred (debt σ) c ∗ prngReg c (ρ c) ∗ ready σ m c)
      ⊢ |={Set.univ}=> iprop(begin0 σ m c ∗ emp) := by
  iintro ⟨-, Hlev, Hcr, -, HG⟩
  ihave Hc := (credits (F := F) σ c) $$ Hcr
  icases Hc with ⟨HB, HV⟩
  imodintro
  unfold begin0 ready
  isplitl
  · isplitl [HG]; · iexact HG
    isplitl [HB]; · iexact HB
    isplitl [HV]; · iexact HV
    iexact Hlev
  · iempintro

theorem enter_body (c : Dev nD) :
    iprop(begin0 σ m c ∗ Pipeline.prefHeld Pipeline.Prefetch.none c (fun _ => fullShare.right) (fun k => k.elim0) ∗ Pipeline.scopedRest cfg0.spec c)
      ⊢ (dats σ m 0 c).Φ 0 := by
  rw [show (dats σ m 0 c).Φ 0 = pre0 σ m c from rfl, scopedRest0_eq]
  unfold pre0
  iintro ⟨Hs, -, ⟨%f, Hr⟩⟩
  isplitl [Hs]; · iexact Hs
  iexists f; iapply (Entails.of_eq (bufAt_eq c f).symm); iexact Hr

theorem leave_body (c : Dev nD) :
    (dats σ m 0 c).Φ (Fin.last cfg0.N) ⊢ iprop(unscopedSems0 c ∗ Pipeline.ownSems0 scopedSem c ∗ Pipeline.scopedRest cfg0.spec c) := by
  rw [show (dats σ m 0 c).Φ (Fin.last cfg0.N) = post0 m c from rfl, scopedRest0_eq, scopedSems_eq0, barSem_eq0]
  unfold post0
  iintro ⟨Hr, HzS, HzV, HzB⟩
  isplitl [HzB]; · iexact HzB
  isplitl [HzS HzV]
  · isplitl [HzS] <;> iassumption
  iexists (xIn m c); iapply (Entails.of_eq (bufAt_eq c (xIn m c))); iexact Hr

theorem may_stage (c : Dev nD) : (levAts cnt lev : sProp 𝕄) ⊢ Pipeline.cellsWaits cfgs (dats σ m) () 0 c :=
  Pipeline.cellsWaits_intro cfgs (dats σ m) () 0 c fun w s t =>
    mayWait_staging σ c _ (by fin_cases w <;> fin_cases s <;> decide) _ (by
      rcases t with ⟨_ | _, ht⟩
      · exact Or.inl rfl
      · exact Or.inr rfl)

/-! ## The run -/

/-- What the arrays hold at the end, by the pipeline's account. -/
def final (c : Dev nD) (w : Fin cfg0.W) : Buf (Elt F) ((cfg0.win w).arr.view.loc (c : Thread nD τ)) := (dats σ m 0 c).arrAt w cfg0.N

set_option maxRecDepth 8000 in
/-- Every execution ends with every array as the pipeline accounts for it, and every semaphore at zero. -/
theorem run_final (hσ : TableOf σ m) : θ_run defs (onTc (τ := τ) (main (F := F))) ⟨m, fun _ => 0, ρ⟩
    (fun r => (∀ c : Dev nD, ∀ w : Fin cfg0.W, r.2.mem ((cfg0.win w).arr.view.loc (c : Thread nD τ)) = final σ m c w) ∧ r.2.sem = fun _ => 0) :=
  Pipeline.θ_run_region_owing_glob_pf (fun p => (cfgs p).toPCfg) (fun p => (cfgs p).toPCfg_adm) (dats σ m) () cellOf_inj (0 : Fin 1)
    winFacts0.to₀ scoped_facts (Pipeline.PreFacts.none _) EPipe defs₀ 𝒱₀ m ρ main
    (hmain := fun _ => rfl)
    (hbody := body_sound σ m hσ) (hne := fun w => by fin_cases w <;> exact Nat.succ_pos _) (harr := arr_whole0) (hstage := stage_whole0) (hshare := share_full σ m)
    (hdistinct := winFacts0.arr_inj)
    (O₀ := debt σ) (howed₀ := fun _ => rfl) (howedN := fun _ => rfl)
    (L := cnt) (lv := lev) (hL := cnt_off) (hwaits := may_stage σ m)
    (G := dealt σ m) (G' := ready σ m) (u₀ := ghost0)
    (hu₀ := by
      unfold ghost0
      iintro Hu
      ihave H := (ownU_pair _ _) $$ Hu
      icases H with ⟨HP, HX⟩
      imod (deal σ m) $$ HX with HG
      imodintro
      isplitl [HP] <;> iassumption)
    (hglob := set_up σ m)
    (hA := fun _ _ => rfl) (hpf := fun _ k => k.elim0)
    (X := begin0 σ m) (Y := fun c => unscopedSems0 c) (Z := fun _ => iprop(emp))
    (hX := enter σ m ρ) (hin := enter_body σ m) (hout := leave_body σ m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold -/

theorem final_table (c : Dev nD) : final σ m c (0 : Fin 3) = m ((c : Thread nD τ).loc main_arg1) := (dats (F := F) σ m 0 c).arrAt_in (0 : Fin 3) rfl _
theorem final_x (c : Dev nD) : final σ m c (1 : Fin 3) = m ((c : Thread nD τ).loc main_arg0) := (dats (F := F) σ m 0 c).arrAt_in (1 : Fin 3) rfl _

/-- The result's one block is the whole array. -/
theorem covered (t : Fin cfg0.N) (i : (main_v1 : Ref sig .tc).ty.Idx) : i ∈ ((cfg0.win (2 : Fin 3)).blk t).view.set := by
  obtain rfl := fin_N0 t
  show i ∈ ((View.whole main_v1).slice (win0_2.rect pt)).set
  unfold View.set
  refine Finset.mem_map.mpr ⟨i, Finset.mem_univ _, ?_⟩
  exact funext fun a => Fin.ext (by fin_cases a <;> exact (Nat.zero_add _).trans (Nat.one_mul _))

theorem final_out (c : Dev nD) : final σ m c (2 : Fin 3) = m ((σ.symm c : Thread nD τ).loc main_arg0) := by
  refine (dats σ m 0 c).arrAt_eq_of_cover (2 : Fin 3) _ (fun t _ => ?_) (fun i => ⟨pt, flush0_2 pt, covered pt i⟩)
  obtain rfl := fin_N0 t
  exact (block_out (F := F) (xOut σ m c)).symm

/-- The kernel's run: device `c` ends with the block of device `σ.symm c`, its arguments unchanged, all semaphores at zero. -/
theorem run (hσ : TableOf σ m) : θ_run defs (onTc (τ := τ) (main (F := F))) ⟨m, fun _ => 0, ρ⟩
    (fun r => (∀ c : Dev nD, r.2.mem ((c : Thread nD τ).loc main_v1) = m ((σ.symm c : Thread nD τ).loc main_arg0)
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  (θ_run _ _ _).mono (fun r h => ⟨fun c => ⟨(h.1 c 2).trans (final_out σ m c), (h.1 c 1).trans (final_x σ m c), (h.1 c 0).trans (final_table σ m c)⟩, h.2⟩)
    (run_final σ m ρ hσ)

end Cert.KernelIdeal.Permute

end
-- ==== Proof.Reference.Run.lean ====
/-
# The reference program: its run, and what its result holds under a permutation's table

The reference sorts the table `pi` together with the positions `0, 1, 2, 3`, which leaves the inverse permutation, and reads
the rows of `x` in that order. `run` says what it computes from any memory; `block_result` says that when the table holds the
words of a permutation `σ`, block `c` of the result is block `σ.symm c` of `x`.
-/
module

public import proofs.«01_k».proof.Proof.Gen.ReferenceIdeal
public import Idealize.ShloMosaic.Lib.StableHlo.Run
public import Idealize.ShloMosaic.Lib.Quiescent
public import Idealize.ShloMosaic.PureOps.Ideal

@[expose] public section

noncomputable section

namespace Cert.ReferenceIdeal.Permute

open Cert.ReferenceIdeal Cert.ReferenceIdeal.Gen
open Idealize.ShloMosaic Idealize.ShloMosaic.TcCoe Idealize.ShloMosaic.StableHlo Idealize.SL.Sem

variable {F : FTy → Type} [FloatOps F]

/-! ## The result as a function of the arguments -/

/-- The positions in the order that sorts the table. -/
def order (t : IVec S4 32) : IVec S4 32 := (Host.sort2 S4 0 comparator_i32_i32_d0 t (iotaInDim S4 32 0)).2

/-- The rows to read: a negative position counts from the end. -/
def rows (t : IVec S4 32) : IVec S4 32 :=
  select (cmpi .slt (order t) (broadcastInDim S4 ![] bcast_S_S4 (constantI S_ 32 0#32)))
    (addi (order t) (broadcastInDim S4 ![] bcast_S_S4 (constantI S_ 32 4#32))) (order t)

/-- The rows of `x` in that order. -/
def gathered {α : Type} (x : S4x256x256.Idx → α) (t : IVec S4 32) : S4x256x256.Idx → α :=
  Host.gather gather_S4x256x256_S4x1_S4x256x256_12_0_n_n_0_1_1256256 x (broadcastInDim S4x1 ![0] bcast_S4_S4x1_0 (rows t))

/-- The reference's result: the rows in that order, through the two changes of format. -/
def result (x : FVec F S4x256x256 .bf16) (t : IVec S4 32) : FVec F S4x256x256 .bf16 :=
  truncf .bf16 (extf .f32 (gathered x t) bitsLt_bf16_f32) bitsLt_bf16_f32

/-! ## The run -/

/-- The reference's operations, in order. -/
abbrev ops : List (HloOp τ sig (Elt F)) :=
  [ nullary main_call0_v0 (iotaInDim S4 32 0),
    binary main_arg1 main_call0_v0 main_call0_v1_0 (fun x y => (Host.sort2 S4 0 comparator_i32_i32_d0 x y).1),
    binary main_arg1 main_call0_v0 main_v0 (fun x y => (Host.sort2 S4 0 comparator_i32_i32_d0 x y).2),
    nullary main_c (constantI S_ 32 0#32),
    unary main_c main_v1 (broadcastInDim S4 ![] bcast_S_S4),
    binary main_v0 main_v1 main_v2 (cmpi .slt),
    nullary main_c_0 (constantI S_ 32 4#32),
    unary main_c_0 main_v3 (broadcastInDim S4 ![] bcast_S_S4),
    binary main_v0 main_v3 main_v4 addi,
    ternary main_v2 main_v4 main_v0 main_v5 select,
    unary main_v5 main_v6 (broadcastInDim S4x1 ![0] bcast_S4_S4x1_0),
    binary main_arg0 main_v6 main_v7 (Host.gather gather_S4x256x256_S4x1_S4x256x256_12_0_n_n_0_1_1256256),
    unary main_v7 main_v8 (extf .f32 · bitsLt_bf16_f32),
    unary main_v8 main_v9 (truncf .bf16 · bitsLt_bf16_f32) ]

/-- The program is that straight line. -/
theorem main_eq (c : Dev nD) : main (F := F) c = seq ops := rfl

/-- After the operations the result's buffer holds the result of the two arguments; -/
theorem after_result (V : Valuation τ sig (Elt F)) : after ops V (main_v9 : DevRef τ sig)
    = result (V (main_arg0 : DevRef τ sig)) (V (main_arg1 : DevRef τ sig)) := by
  after_results
  rfl

/-- the first argument holds what it held, -/
theorem after_x (V : Valuation τ sig (Elt F)) : after ops V (main_arg0 : DevRef τ sig) = V (main_arg0 : DevRef τ sig) := by
  after_results

/-- and so does the table. -/
theorem after_table (V : Valuation τ sig (Elt F)) : after ops V (main_arg1 : DevRef τ sig) = V (main_arg1 : DevRef τ sig) := by
  after_results

/-- The program has no buffer and no semaphore of a kernel's own. -/
theorem no_scopedRefs : (Finset.univ.filter fun b : Ref sig .tc => b.isScoped) = ∅ := by decide
theorem no_scopedSems : (Finset.univ.filter fun sm : SemLoc sig => sm.isScoped .tc) = ∅ := by decide

/-- Every operation works on the device's own arrays. -/
theorem ops_sub : (ops : List (HloOp τ sig (Elt F))).Forall fun op => op.bufs ⊆ tcRefs τ sig :=
  ⟨nullary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., unary_bufs_sub ..⟩

/-- From any memory every execution of the reference ends with the result in its buffer, the arguments as they were and no
    semaphore counting. -/
theorem run (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c : Thread nD τ).loc main_v9)
            = result (m ((c : Thread nD τ).loc main_arg0)) (m ((c : Thread nD τ).loc main_arg1))
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  (θ_run defs _ _).mono (fun r h => ⟨fun c => ⟨(h c main_v9).trans (after_result _), (h c main_arg0).trans (after_x _),
      (h c main_arg1).trans (after_table _)⟩, sem_eq_zero_of_no_sems rfl r.2⟩)
    (run_seq no_scopedRefs no_scopedSems defs main (fun _ => ops) main_eq (fun _ => ops_sub) m ρ)

/-! ## The rows under a permutation's table -/

/-- Place `i` of a four-word table. -/
def place (i : Fin 4) : S4.Idx := fun a => ⟨i.val, by fin_cases a; exact i.isLt⟩

/-- Every place of the table is one of the four. -/
theorem place_eq (p : S4.Idx) : p = place ⟨(p 0).val, (p 0).isLt⟩ := by funext a; fin_cases a; rfl

/-- The table whose word at `i` is `f i`. -/
def wordsOf (f : Fin 4 → Fin 4) : IVec S4 32 := fun j => BitVec.ofNat 32 (f (j 0)).val

set_option synthInstance.maxSize 4096 in
set_option synthInstance.maxHeartbeats 400000 in
/-- Over every table of four distinct words: the row read at the place of word `j` in sorted order is where `j` stands. -/
theorem rows_all : ∀ a b c d : Fin 4, [a, b, c, d].Nodup → ∀ i : Fin 4,
    rows (wordsOf ![a, b, c, d]) (place (![a, b, c, d] i)) = BitVec.ofNat 32 i.val := by
  decide +kernel

/-- Under the table of `σ` the row read at `c` is `σ.symm c`. -/
theorem rows_of (σ : Equiv.Perm (Fin 4)) (c : Fin 4) : rows (wordsOf σ) (place c) = BitVec.ofNat 32 (σ.symm c).val := by
  have hf : (σ : Fin 4 → Fin 4) = ![σ 0, σ 1, σ 2, σ 3] := by funext i; fin_cases i <;> rfl
  have hn : [σ 0, σ 1, σ 2, σ 3].Nodup := by simp
  have h := rows_all (σ 0) (σ 1) (σ 2) (σ 3) hn (σ.symm c)
  rw [← hf, σ.apply_symm_apply] at h
  exact h

/-! ## The blocks of the result -/

/-- The array of one block, in the whole. -/
abbrev S1 : Shape := ⟨3, ![1, 256, 256]⟩

/-- How the gather reads: along the first axis at the rows named, along the others as they are. -/
abbrev readDims := gather_S4x256x256_S4x1_S4x256x256_12_0_n_n_0_1_1256256

/-- Where the table of rows names the row of the element `j`. -/
def rowIdx (j : S4x256x256.Idx) : S4x1.Idx :=
  fun a => match a with | ⟨0, _⟩ => ⟨(j 0).val, (j 0).isLt⟩ | ⟨1, _⟩ => ⟨0, Nat.one_pos⟩

/-- The row read for the element `j`: the one named, held within the four; -/
theorem read_row (idx : IVec S4x1 32) (j : S4x256x256.Idx) :
    (readDims.operandIdx j idx 0).val = min (idx (rowIdx j)).toInt.toNat 3 := by
  show readDims.start j idx 0 + readDims.batchCoord j 0 + readDims.offCoord j 0 = _
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 3) ∈ readDims.startIndexMap from List.mem_singleton.mpr rfl)]
  have h : readDims.siIdx j ⟨List.idxOf (0 : Fin 3) readDims.startIndexMap,
      List.idxOf_lt_length_iff.2 (List.mem_singleton.mpr rfl)⟩ = rowIdx j := by
    funext b; refine Fin.ext ?_
    match b with
    | ⟨0, _⟩ => rfl
    | ⟨1, _⟩ => rfl
  rw [h]
  rfl

/-- the other two coordinates are the element's own. -/
theorem read_rest (idx : IVec S4x1 32) (j : S4x256x256.Idx) (a : Fin 3) (ha : a ≠ 0) :
    (readDims.operandIdx j idx a).val = (j a).val := by
  show readDims.start j idx a + readDims.batchCoord j a + readDims.offCoord j a = _
  rw [GatherDims.batchCoord_eq_zero _ _ _ List.not_mem_nil]
  unfold GatherDims.start
  rw [dif_neg (show a ∉ readDims.startIndexMap from fun h => ha (List.mem_singleton.mp h))]
  fin_cases a
  · exact absurd rfl ha
  · exact Nat.zero_add _
  · exact Nat.zero_add _

/-- A word below four, read as a row and held within the four, is itself. -/
theorem row_word : ∀ k : Fin 4, min (BitVec.ofNat 32 k.val).toInt.toNat 3 = k.val := by decide

/-- A gathered element: the operand's in the row that the table of rows names, where that row is one of the four. -/
theorem gathered_apply {α : Type} (x : S4x256x256.Idx → α) (t : IVec S4 32) (j : S4x256x256.Idx) (k : S4x256x256.Idx)
    (h0 : rows t (place (j 0)) = BitVec.ofNat 32 (k 0).val) (h1 : (k 1).val = (j 1).val) (h2 : (k 2).val = (j 2).val) :
    gathered x t j = x k := by
  have e : broadcastInDim S4x1 ![0] bcast_S4_S4x1_0 (rows t) (rowIdx j) = rows t (place (j 0)) :=
    congrArg (rows t) (place_eq _)
  refine congrArg x (funext fun a => Fin.ext ?_)
  by_cases ha : a = 0
  · subst ha
    rw [read_row, e, h0]
    exact row_word (k 0)
  · rw [read_rest _ _ _ ha]
    fin_cases a
    · exact absurd rfl ha
    · exact h1.symm
    · exact h2.symm

/-- When the table holds the words of `σ`, block `c` of the result at the extended reals is block `σ.symm c` of `x`. -/
theorem block_result (σ : Equiv.Perm (Fin 4)) (x : FVec Ideal S4x256x256 .bf16) (t : IVec S4 32)
    (ht : ∀ j : S4.Idx, t j = BitVec.ofNat 32 (σ (j 0)).val) (c : Fin 4) :
    Layout.block S1 S4x256x256 0 4 c (result x t) = Layout.block S1 S4x256x256 0 4 (σ.symm c) x := by
  obtain rfl : t = wordsOf σ := funext ht
  funext i
  have hi : (i 0).val = 0 := by have : (i 0).val < 1 := (i 0).isLt; omega
  refine gathered_apply x (wordsOf σ) _ _ ?_ rfl rfl
  have e : ∀ d : Fin 4, ((show Layout.Tiles S1 S4x256x256 0 4 by decide).idx d i 0).val = d.val := fun d => by
    show d.val * 1 + (i 0).val = d.val
    omega
  rw [e]
  refine Eq.trans ?_ (rows_of σ c)
  exact congrArg (fun p : Fin 4 => rows (wordsOf σ) (place p)) (Fin.ext (e c))

end Cert.ReferenceIdeal.Permute
-- ==== Proof.Claims.Tables.lean ====
/-
# From a pinned table to a permutation

A precondition of this certificate compares a device's table `pi` with four literal words, a permutation of `0, 1, 2, 3`.
This module names the permutation and reads the comparison as an equation of words.
-/
module

public import Idealize.ShloMosaic.Lib.StableHlo
public import Idealize.ShloMosaic.PureOps
public import Mathlib.Logic.Equiv.Fintype

@[expose] public section

noncomputable section

namespace Cert.Proof

open Idealize.ShloMosaic

/-- The shape of the table. -/
abbrev T4 : Shape := ⟨1, ![4]⟩

/-- The permutation with the images `f`. -/
def ofImages (f : Fin 4 → Fin 4) (h : Function.Injective f) : Equiv.Perm (Fin 4) :=
  Equiv.ofBijective f (Finite.injective_iff_bijective.mp h)

/-- Two words that compare equal are equal. -/
theorem eq_of_cmpi {w : Nat} {x y : BitVec w} (h : IntOp.cmpi .eq x y = 1#1) : x = y := by
  by_contra hn
  have : IntOp.cmpi .eq x y = 0#1 := by
    show BitVec.ofBool (x == y) = 0#1
    rw [beq_eq_false_iff_ne.mpr hn]
    rfl
  rw [this] at h
  exact absurd h (by decide)

/-- The literal words are listed in the table's order. -/
theorem rowMajor_place (p : T4.Idx) : T4.rowMajor p = (⟨(p 0).val, (p 0).isLt⟩ : Fin 4) := by
  have h : ∀ p : T4.Idx, (T4.rowMajor p).val = (p 0).val := by decide
  exact Fin.ext (h p)

/-- A table that compares equal to the literal words `lit` holds `f`'s words, where `lit` lists them. -/
theorem table_words (t : IVec T4 32) (lit : Fin 4 → BitVec 32) (f : Fin 4 → Fin 4)
    (h : cmpi .eq t (fun i => lit (T4.rowMajor i)) = fun _ => 1#1) (hl : ∀ i : Fin 4, lit i = BitVec.ofNat 32 (f i).val)
    (p : T4.Idx) : t p = BitVec.ofNat 32 (f (p 0)).val := by
  have e : t p = lit (T4.rowMajor p) := eq_of_cmpi (congrFun h p)
  exact (e.trans (congrArg lit (rowMajor_place p))).trans (hl _)

end Cert.Proof
-- ==== Proof.Claims.General.lean ====
/-
# The claims, for any permutation

The three statements of this certificate that depend on the table, each for an arbitrary permutation `σ` and any memory whose
tables hold its words: the run of the kernel, the run of the kernel over the extended reals, and that the latter's result is
the reference's. The certificate's claims are their instances at the twenty-four permutations.
-/
module

public import proofs.«01_k».proof.Defs
public import proofs.«01_k».proof.Proof.Permute.Launch
public import proofs.«01_k».proof.Proof.PermuteIdeal.Launch
public import proofs.«01_k».proof.Proof.Reference.Run
public import proofs.«01_k».proof.Proof.Claims.Tables

@[expose] public section

noncomputable section

namespace Cert.Proof

open Idealize.ShloMosaic Idealize.SL.Sem

/-- The kernel, when every device's table holds the words of `σ`: every execution ends, with the arguments as they were and
    every semaphore back at zero. -/
theorem kernel_frame (σ : Equiv.Perm (Fin 4)) (m : (ℓ : Loc Cert.Kernel.nD Cert.Kernel.τ Cert.Kernel.sig) → Buf (Elt Bits) ℓ)
    (g : Dev Cert.Kernel.nD → PrngReg)
    (hσ : ∀ (c : Dev Cert.Kernel.nD) (p : T4.Idx),
      (m ((c.tc : Thread Cert.Kernel.nD Cert.Kernel.τ).loc Cert.Kernel.main_arg1) : IVec T4 32) p = BitVec.ofNat 32 (σ (p 0)).val) :
    θ_run (Cert.Kernel.defs (F := Bits)) (onTc (τ := Cert.Kernel.τ) (Cert.Kernel.main (F := Bits))) ⟨m, fun _ => 0, g⟩ (fun r =>
      (∀ c : Dev Cert.Kernel.nD,
        r.2.mem ((c.tc : Thread Cert.Kernel.nD Cert.Kernel.τ).loc Cert.Kernel.main_arg0)
            = m ((c.tc : Thread Cert.Kernel.nD Cert.Kernel.τ).loc Cert.Kernel.main_arg0)
        ∧ r.2.mem ((c.tc : Thread Cert.Kernel.nD Cert.Kernel.τ).loc Cert.Kernel.main_arg1)
            = m ((c.tc : Thread Cert.Kernel.nD Cert.Kernel.τ).loc Cert.Kernel.main_arg1)) ∧ r.2.sem = fun _ => 0) :=
  (θ_run _ _ _).mono (fun _ h => ⟨fun c => (h.1 c).2, h.2⟩)
    (Cert.Kernel.Permute.run σ m g (fun c i => hσ c (Cert.Kernel.Permute.pos i)))

/-- What the run of the kernel over the extended reals leaves, when every device's table holds the words of `σ`. -/
theorem ideal_run (σ : Equiv.Perm (Fin 4))
    (m : (ℓ : Loc Cert.KernelIdeal.nD Cert.KernelIdeal.τ Cert.KernelIdeal.sig) → Buf (Elt Ideal) ℓ)
    (g : Dev Cert.KernelIdeal.nD → PrngReg)
    (hσ : ∀ (c : Dev Cert.KernelIdeal.nD) (p : T4.Idx),
      (m ((c.tc : Thread Cert.KernelIdeal.nD Cert.KernelIdeal.τ).loc Cert.KernelIdeal.main_arg1) : IVec T4 32) p
        = BitVec.ofNat 32 (σ (p 0)).val) :
    θ_run (Cert.KernelIdeal.defs (F := Ideal)) (onTc (τ := Cert.KernelIdeal.τ) (Cert.KernelIdeal.main (F := Ideal)))
      ⟨m, fun _ => 0, g⟩ (fun r =>
      (∀ c : Dev Cert.KernelIdeal.nD,
        r.2.mem ((c.tc : Thread Cert.KernelIdeal.nD Cert.KernelIdeal.τ).loc Cert.KernelIdeal.main_v1)
            = m ((Dev.tc (σ.symm c) : Thread Cert.KernelIdeal.nD Cert.KernelIdeal.τ).loc Cert.KernelIdeal.main_arg0)
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)) ∧ r.2.sem = fun _ => 0) :=
  Cert.KernelIdeal.Permute.run σ m g (fun c i => hσ c (Cert.KernelIdeal.Permute.pos i))

/-- The kernel over the extended reals, likewise: every execution ends, with the arguments as they were and every semaphore
    back at zero. -/
theorem ideal_frame (σ : Equiv.Perm (Fin 4))
    (m : (ℓ : Loc Cert.KernelIdeal.nD Cert.KernelIdeal.τ Cert.KernelIdeal.sig) → Buf (Elt Ideal) ℓ)
    (g : Dev Cert.KernelIdeal.nD → PrngReg)
    (hσ : ∀ (c : Dev Cert.KernelIdeal.nD) (p : T4.Idx),
      (m ((c.tc : Thread Cert.KernelIdeal.nD Cert.KernelIdeal.τ).loc Cert.KernelIdeal.main_arg1) : IVec T4 32) p
        = BitVec.ofNat 32 (σ (p 0)).val) :
    θ_run (Cert.KernelIdeal.defs (F := Ideal)) (onTc (τ := Cert.KernelIdeal.τ) (Cert.KernelIdeal.main (F := Ideal)))
      ⟨m, fun _ => 0, g⟩ (fun r =>
      (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)) ∧ r.2.sem = fun _ => 0) :=
  (θ_run _ _ _).mono (fun _ h => ⟨fun c => (h.1 c).2, h.2⟩) (ideal_run σ m g hσ)

/-- The reference, from any memory: every execution ends, with the arguments as they were and every semaphore at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r =>
      (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
      ∧ r.2.sem = fun _ => 0) :=
  (θ_run _ _ _).mono (fun _ h => ⟨fun c => (h.1 c).2, h.2⟩) (Cert.ReferenceIdeal.Permute.run m g)

/-- The kernel over the extended reals computes the reference, when every device's table holds the words of `σ` and the
    devices hold the blocks of the reference's array: device `c`'s result is block `c` of the reference's. -/
theorem ideal_value (σ : Equiv.Perm (Fin 4))
    (m : (ℓ : Loc Cert.KernelIdeal.nD Cert.KernelIdeal.τ Cert.KernelIdeal.sig) → Buf (Elt Ideal) ℓ)
    (g : Dev Cert.KernelIdeal.nD → PrngReg)
    (m' : (ℓ : Loc Cert.ReferenceIdeal.nD Cert.ReferenceIdeal.τ Cert.ReferenceIdeal.sig) → Buf (Elt Ideal) ℓ)
    (g' : Dev Cert.ReferenceIdeal.nD → PrngReg)
    (hσ : ∀ (c : Dev Cert.KernelIdeal.nD) (p : T4.Idx),
      (m ((c.tc : Thread Cert.KernelIdeal.nD Cert.KernelIdeal.τ).loc Cert.KernelIdeal.main_arg1) : IVec T4 32) p
        = BitVec.ofNat 32 (σ (p 0)).val)
    (hm : ∀ c : Dev Cert.KernelIdeal.nD,
      m ((c.tc : Thread Cert.KernelIdeal.nD Cert.KernelIdeal.τ).loc Cert.KernelIdeal.main_arg0)
          = Layout.block ⟨3, ![1, 256, 256]⟩ ⟨3, ![4, 256, 256]⟩ 0 4 c
            (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1)
          = m' (((0 : Dev Cert.ReferenceIdeal.nD).tc : Thread Cert.ReferenceIdeal.nD Cert.ReferenceIdeal.τ).loc Cert.ReferenceIdeal.main_arg1)) :
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal)))
        ⟨m, fun _ => 0, g⟩ (fun r => ∀ c : Dev Cert.KernelIdeal.nD,
          r.2.mem ((c.tc : Thread Cert.KernelIdeal.nD Cert.KernelIdeal.τ).loc Cert.KernelIdeal.main_v1)
              = Layout.block ⟨3, ![1, 256, 256]⟩ ⟨3, ![4, 256, 256]⟩ 0 4 c v0
          ∧ r.2.mem ((c.tc : Thread Cert.KernelIdeal.nD Cert.KernelIdeal.τ).loc Cert.KernelIdeal.main_arg0)
              = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
              = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal)))
        ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0)
              = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1)
              = m' (((0 : Dev Cert.ReferenceIdeal.nD).tc : Thread Cert.ReferenceIdeal.nD Cert.ReferenceIdeal.τ).loc Cert.ReferenceIdeal.main_arg1)) := by
  have ht : ∀ p : T4.Idx,
      (m' (((0 : Dev Cert.ReferenceIdeal.nD).tc : Thread Cert.ReferenceIdeal.nD Cert.ReferenceIdeal.τ).loc Cert.ReferenceIdeal.main_arg1) : IVec T4 32) p
        = BitVec.ofNat 32 (σ (p 0)).val := fun p => (congrFun (hm 0).2 p).symm.trans (hσ 0 p)
  exact ⟨_, (θ_run _ _ _).mono (fun _ h c => ⟨((h.1 c).1.trans (hm (σ.symm c)).1).trans
      (Cert.ReferenceIdeal.Permute.block_result σ _ _ ht c).symm, (h.1 c).2⟩) (ideal_run σ m g hσ),
    (θ_run _ _ _).mono (fun _ h => h.1 0) (Cert.ReferenceIdeal.Permute.run m' g')⟩

end Cert.Proof
-- ==== Proof.lean ====
/-
# The claims of this certificate

Each is one of the general statements of Proof/Claims/General.lean at one of the twenty-four permutations. `at_abcd` is the
permutation that sends `0, 1, 2, 3` to `a, b, c, d`; `words_abcd` reads the precondition of that name.
-/
module

public import proofs.«01_k».proof.Defs
public import proofs.«01_k».proof.Proof.Claims.General

@[expose] public section

noncomputable section

namespace Cert.Proof

open Idealize.ShloMosaic Idealize.SL.Sem

/-! ## The permutations and the preconditions that pin them -/

/-- The permutation `0, 1, 2, 3`. -/
def at_0123 : Equiv.Perm (Fin 4) := ofImages ![0, 1, 2, 3] (by decide)

/-- The precondition `perm_0123` has no side condition to prove. -/
instance facts_0123 : Cert.Pre_perm_0123_Kernel.Facts := ⟨⟩

/-- A table of which the precondition `perm_0123` holds has that permutation's words. -/
theorem words_0123 {F : FTy → Type} [FloatOps F]
    {x : FVec F Cert.Pre_perm_0123_Kernel.S1x256x256 .bf16} {t : IVec T4 32}
    (h : Cert.Pre_perm_0123_Kernel.fn x t = fun _ => 1#1) (p : T4.Idx) : t p = BitVec.ofNat 32 (at_0123 (p 0)).val :=
  table_words t Cert.Pre_perm_0123_Kernel.lit0 ![0, 1, 2, 3] h (by decide) p

/-- The permutation `0, 1, 3, 2`. -/
def at_0132 : Equiv.Perm (Fin 4) := ofImages ![0, 1, 3, 2] (by decide)

/-- The precondition `perm_0132` has no side condition to prove. -/
instance facts_0132 : Cert.Pre_perm_0132_Kernel.Facts := ⟨⟩

/-- A table of which the precondition `perm_0132` holds has that permutation's words. -/
theorem words_0132 {F : FTy → Type} [FloatOps F]
    {x : FVec F Cert.Pre_perm_0132_Kernel.S1x256x256 .bf16} {t : IVec T4 32}
    (h : Cert.Pre_perm_0132_Kernel.fn x t = fun _ => 1#1) (p : T4.Idx) : t p = BitVec.ofNat 32 (at_0132 (p 0)).val :=
  table_words t Cert.Pre_perm_0132_Kernel.lit0 ![0, 1, 3, 2] h (by decide) p

/-- The permutation `0, 2, 1, 3`. -/
def at_0213 : Equiv.Perm (Fin 4) := ofImages ![0, 2, 1, 3] (by decide)

/-- The precondition `perm_0213` has no side condition to prove. -/
instance facts_0213 : Cert.Pre_perm_0213_Kernel.Facts := ⟨⟩

/-- A table of which the precondition `perm_0213` holds has that permutation's words. -/
theorem words_0213 {F : FTy → Type} [FloatOps F]
    {x : FVec F Cert.Pre_perm_0213_Kernel.S1x256x256 .bf16} {t : IVec T4 32}
    (h : Cert.Pre_perm_0213_Kernel.fn x t = fun _ => 1#1) (p : T4.Idx) : t p = BitVec.ofNat 32 (at_0213 (p 0)).val :=
  table_words t Cert.Pre_perm_0213_Kernel.lit0 ![0, 2, 1, 3] h (by decide) p

/-- The permutation `0, 2, 3, 1`. -/
def at_0231 : Equiv.Perm (Fin 4) := ofImages ![0, 2, 3, 1] (by decide)

/-- The precondition `perm_0231` has no side condition to prove. -/
instance facts_0231 : Cert.Pre_perm_0231_Kernel.Facts := ⟨⟩

/-- A table of which the precondition `perm_0231` holds has that permutation's words. -/
theorem words_0231 {F : FTy → Type} [FloatOps F]
    {x : FVec F Cert.Pre_perm_0231_Kernel.S1x256x256 .bf16} {t : IVec T4 32}
    (h : Cert.Pre_perm_0231_Kernel.fn x t = fun _ => 1#1) (p : T4.Idx) : t p = BitVec.ofNat 32 (at_0231 (p 0)).val :=
  table_words t Cert.Pre_perm_0231_Kernel.lit0 ![0, 2, 3, 1] h (by decide) p

/-- The permutation `0, 3, 1, 2`. -/
def at_0312 : Equiv.Perm (Fin 4) := ofImages ![0, 3, 1, 2] (by decide)

/-- The precondition `perm_0312` has no side condition to prove. -/
instance facts_0312 : Cert.Pre_perm_0312_Kernel.Facts := ⟨⟩

/-- A table of which the precondition `perm_0312` holds has that permutation's words. -/
theorem words_0312 {F : FTy → Type} [FloatOps F]
    {x : FVec F Cert.Pre_perm_0312_Kernel.S1x256x256 .bf16} {t : IVec T4 32}
    (h : Cert.Pre_perm_0312_Kernel.fn x t = fun _ => 1#1) (p : T4.Idx) : t p = BitVec.ofNat 32 (at_0312 (p 0)).val :=
  table_words t Cert.Pre_perm_0312_Kernel.lit0 ![0, 3, 1, 2] h (by decide) p

/-- The permutation `0, 3, 2, 1`. -/
def at_0321 : Equiv.Perm (Fin 4) := ofImages ![0, 3, 2, 1] (by decide)

/-- The precondition `perm_0321` has no side condition to prove. -/
instance facts_0321 : Cert.Pre_perm_0321_Kernel.Facts := ⟨⟩

/-- A table of which the precondition `perm_0321` holds has that permutation's words. -/
theorem words_0321 {F : FTy → Type} [FloatOps F]
    {x : FVec F Cert.Pre_perm_0321_Kernel.S1x256x256 .bf16} {t : IVec T4 32}
    (h : Cert.Pre_perm_0321_Kernel.fn x t = fun _ => 1#1) (p : T4.Idx) : t p = BitVec.ofNat 32 (at_0321 (p 0)).val :=
  table_words t Cert.Pre_perm_0321_Kernel.lit0 ![0, 3, 2, 1] h (by decide) p

/-- The permutation `1, 0, 2, 3`. -/
def at_1023 : Equiv.Perm (Fin 4) := ofImages ![1, 0, 2, 3] (by decide)

/-- The precondition `perm_1023` has no side condition to prove. -/
instance facts_1023 : Cert.Pre_perm_1023_Kernel.Facts := ⟨⟩

/-- A table of which the precondition `perm_1023` holds has that permutation's words. -/
theorem words_1023 {F : FTy → Type} [FloatOps F]
    {x : FVec F Cert.Pre_perm_1023_Kernel.S1x256x256 .bf16} {t : IVec T4 32}
    (h : Cert.Pre_perm_1023_Kernel.fn x t = fun _ => 1#1) (p : T4.Idx) : t p = BitVec.ofNat 32 (at_1023 (p 0)).val :=
  table_words t Cert.Pre_perm_1023_Kernel.lit0 ![1, 0, 2, 3] h (by decide) p

/-- The permutation `1, 0, 3, 2`. -/
def at_1032 : Equiv.Perm (Fin 4) := ofImages ![1, 0, 3, 2] (by decide)

/-- The precondition `perm_1032` has no side condition to prove. -/
instance facts_1032 : Cert.Pre_perm_1032_Kernel.Facts := ⟨⟩

/-- A table of which the precondition `perm_1032` holds has that permutation's words. -/
theorem words_1032 {F : FTy → Type} [FloatOps F]
    {x : FVec F Cert.Pre_perm_1032_Kernel.S1x256x256 .bf16} {t : IVec T4 32}
    (h : Cert.Pre_perm_1032_Kernel.fn x t = fun _ => 1#1) (p : T4.Idx) : t p = BitVec.ofNat 32 (at_1032 (p 0)).val :=
  table_words t Cert.Pre_perm_1032_Kernel.lit0 ![1, 0, 3, 2] h (by decide) p

/-- The permutation `1, 2, 0, 3`. -/
def at_1203 : Equiv.Perm (Fin 4) := ofImages ![1, 2, 0, 3] (by decide)

/-- The precondition `perm_1203` has no side condition to prove. -/
instance facts_1203 : Cert.Pre_perm_1203_Kernel.Facts := ⟨⟩

/-- A table of which the precondition `perm_1203` holds has that permutation's words. -/
theorem words_1203 {F : FTy → Type} [FloatOps F]
    {x : FVec F Cert.Pre_perm_1203_Kernel.S1x256x256 .bf16} {t : IVec T4 32}
    (h : Cert.Pre_perm_1203_Kernel.fn x t = fun _ => 1#1) (p : T4.Idx) : t p = BitVec.ofNat 32 (at_1203 (p 0)).val :=
  table_words t Cert.Pre_perm_1203_Kernel.lit0 ![1, 2, 0, 3] h (by decide) p

/-- The permutation `1, 2, 3, 0`. -/
def at_1230 : Equiv.Perm (Fin 4) := ofImages ![1, 2, 3, 0] (by decide)

/-- The precondition `perm_1230` has no side condition to prove. -/
instance facts_1230 : Cert.Pre_perm_1230_Kernel.Facts := ⟨⟩

/-- A table of which the precondition `perm_1230` holds has that permutation's words. -/
theorem words_1230 {F : FTy → Type} [FloatOps F]
    {x : FVec F Cert.Pre_perm_1230_Kernel.S1x256x256 .bf16} {t : IVec T4 32}
    (h : Cert.Pre_perm_1230_Kernel.fn x t = fun _ => 1#1) (p : T4.Idx) : t p = BitVec.ofNat 32 (at_1230 (p 0)).val :=
  table_words t Cert.Pre_perm_1230_Kernel.lit0 ![1, 2, 3, 0] h (by decide) p

/-- The permutation `1, 3, 0, 2`. -/
def at_1302 : Equiv.Perm (Fin 4) := ofImages ![1, 3, 0, 2] (by decide)

/-- The precondition `perm_1302` has no side condition to prove. -/
instance facts_1302 : Cert.Pre_perm_1302_Kernel.Facts := ⟨⟩

/-- A table of which the precondition `perm_1302` holds has that permutation's words. -/
theorem words_1302 {F : FTy → Type} [FloatOps F]
    {x : FVec F Cert.Pre_perm_1302_Kernel.S1x256x256 .bf16} {t : IVec T4 32}
    (h : Cert.Pre_perm_1302_Kernel.fn x t = fun _ => 1#1) (p : T4.Idx) : t p = BitVec.ofNat 32 (at_1302 (p 0)).val :=
  table_words t Cert.Pre_perm_1302_Kernel.lit0 ![1, 3, 0, 2] h (by decide) p

/-- The permutation `1, 3, 2, 0`. -/
def at_1320 : Equiv.Perm (Fin 4) := ofImages ![1, 3, 2, 0] (by decide)

/-- The precondition `perm_1320` has no side condition to prove. -/
instance facts_1320 : Cert.Pre_perm_1320_Kernel.Facts := ⟨⟩

/-- A table of which the precondition `perm_1320` holds has that permutation's words. -/
theorem words_1320 {F : FTy → Type} [FloatOps F]
    {x : FVec F Cert.Pre_perm_1320_Kernel.S1x256x256 .bf16} {t : IVec T4 32}
    (h : Cert.Pre_perm_1320_Kernel.fn x t = fun _ => 1#1) (p : T4.Idx) : t p = BitVec.ofNat 32 (at_1320 (p 0)).val :=
  table_words t Cert.Pre_perm_1320_Kernel.lit0 ![1, 3, 2, 0] h (by decide) p

/-- The permutation `2, 0, 1, 3`. -/
def at_2013 : Equiv.Perm (Fin 4) := ofImages ![2, 0, 1, 3] (by decide)

/-- The precondition `perm_2013` has no side condition to prove. -/
instance facts_2013 : Cert.Pre_perm_2013_Kernel.Facts := ⟨⟩

/-- A table of which the precondition `perm_2013` holds has that permutation's words. -/
theorem words_2013 {F : FTy → Type} [FloatOps F]
    {x : FVec F Cert.Pre_perm_2013_Kernel.S1x256x256 .bf16} {t : IVec T4 32}
    (h : Cert.Pre_perm_2013_Kernel.fn x t = fun _ => 1#1) (p : T4.Idx) : t p = BitVec.ofNat 32 (at_2013 (p 0)).val :=
  table_words t Cert.Pre_perm_2013_Kernel.lit0 ![2, 0, 1, 3] h (by decide) p

/-- The permutation `2, 0, 3, 1`. -/
def at_2031 : Equiv.Perm (Fin 4) := ofImages ![2, 0, 3, 1] (by decide)

/-- The precondition `perm_2031` has no side condition to prove. -/
instance facts_2031 : Cert.Pre_perm_2031_Kernel.Facts := ⟨⟩

/-- A table of which the precondition `perm_2031` holds has that permutation's words. -/
theorem words_2031 {F : FTy → Type} [FloatOps F]
    {x : FVec F Cert.Pre_perm_2031_Kernel.S1x256x256 .bf16} {t : IVec T4 32}
    (h : Cert.Pre_perm_2031_Kernel.fn x t = fun _ => 1#1) (p : T4.Idx) : t p = BitVec.ofNat 32 (at_2031 (p 0)).val :=
  table_words t Cert.Pre_perm_2031_Kernel.lit0 ![2, 0, 3, 1] h (by decide) p

/-- The permutation `2, 1, 0, 3`. -/
def at_2103 : Equiv.Perm (Fin 4) := ofImages ![2, 1, 0, 3] (by decide)

/-- The precondition `perm_2103` has no side condition to prove. -/
instance facts_2103 : Cert.Pre_perm_2103_Kernel.Facts := ⟨⟩

/-- A table of which the precondition `perm_2103` holds has that permutation's words. -/
theorem words_2103 {F : FTy → Type} [FloatOps F]
    {x : FVec F Cert.Pre_perm_2103_Kernel.S1x256x256 .bf16} {t : IVec T4 32}
    (h : Cert.Pre_perm_2103_Kernel.fn x t = fun _ => 1#1) (p : T4.Idx) : t p = BitVec.ofNat 32 (at_2103 (p 0)).val :=
  table_words t Cert.Pre_perm_2103_Kernel.lit0 ![2, 1, 0, 3] h (by decide) p

/-- The permutation `2, 1, 3, 0`. -/
def at_2130 : Equiv.Perm (Fin 4) := ofImages ![2, 1, 3, 0] (by decide)

/-- The precondition `perm_2130` has no side condition to prove. -/
instance facts_2130 : Cert.Pre_perm_2130_Kernel.Facts := ⟨⟩

/-- A table of which the precondition `perm_2130` holds has that permutation's words. -/
theorem words_2130 {F : FTy → Type} [FloatOps F]
    {x : FVec F Cert.Pre_perm_2130_Kernel.S1x256x256 .bf16} {t : IVec T4 32}
    (h : Cert.Pre_perm_2130_Kernel.fn x t = fun _ => 1#1) (p : T4.Idx) : t p = BitVec.ofNat 32 (at_2130 (p 0)).val :=
  table_words t Cert.Pre_perm_2130_Kernel.lit0 ![2, 1, 3, 0] h (by decide) p

/-- The permutation `2, 3, 0, 1`. -/
def at_2301 : Equiv.Perm (Fin 4) := ofImages ![2, 3, 0, 1] (by decide)

/-- The precondition `perm_2301` has no side condition to prove. -/
instance facts_2301 : Cert.Pre_perm_2301_Kernel.Facts := ⟨⟩

/-- A table of which the precondition `perm_2301` holds has that permutation's words. -/
theorem words_2301 {F : FTy → Type} [FloatOps F]
    {x : FVec F Cert.Pre_perm_2301_Kernel.S1x256x256 .bf16} {t : IVec T4 32}
    (h : Cert.Pre_perm_2301_Kernel.fn x t = fun _ => 1#1) (p : T4.Idx) : t p = BitVec.ofNat 32 (at_2301 (p 0)).val :=
  table_words t Cert.Pre_perm_2301_Kernel.lit0 ![2, 3, 0, 1] h (by decide) p

/-- The permutation `2, 3, 1, 0`. -/
def at_2310 : Equiv.Perm (Fin 4) := ofImages ![2, 3, 1, 0] (by decide)

/-- The precondition `perm_2310` has no side condition to prove. -/
instance facts_2310 : Cert.Pre_perm_2310_Kernel.Facts := ⟨⟩

/-- A table of which the precondition `perm_2310` holds has that permutation's words. -/
theorem words_2310 {F : FTy → Type} [FloatOps F]
    {x : FVec F Cert.Pre_perm_2310_Kernel.S1x256x256 .bf16} {t : IVec T4 32}
    (h : Cert.Pre_perm_2310_Kernel.fn x t = fun _ => 1#1) (p : T4.Idx) : t p = BitVec.ofNat 32 (at_2310 (p 0)).val :=
  table_words t Cert.Pre_perm_2310_Kernel.lit0 ![2, 3, 1, 0] h (by decide) p

/-- The permutation `3, 0, 1, 2`. -/
def at_3012 : Equiv.Perm (Fin 4) := ofImages ![3, 0, 1, 2] (by decide)

/-- The precondition `perm_3012` has no side condition to prove. -/
instance facts_3012 : Cert.Pre_perm_3012_Kernel.Facts := ⟨⟩

/-- A table of which the precondition `perm_3012` holds has that permutation's words. -/
theorem words_3012 {F : FTy → Type} [FloatOps F]
    {x : FVec F Cert.Pre_perm_3012_Kernel.S1x256x256 .bf16} {t : IVec T4 32}
    (h : Cert.Pre_perm_3012_Kernel.fn x t = fun _ => 1#1) (p : T4.Idx) : t p = BitVec.ofNat 32 (at_3012 (p 0)).val :=
  table_words t Cert.Pre_perm_3012_Kernel.lit0 ![3, 0, 1, 2] h (by decide) p

/-- The permutation `3, 0, 2, 1`. -/
def at_3021 : Equiv.Perm (Fin 4) := ofImages ![3, 0, 2, 1] (by decide)

/-- The precondition `perm_3021` has no side condition to prove. -/
instance facts_3021 : Cert.Pre_perm_3021_Kernel.Facts := ⟨⟩

/-- A table of which the precondition `perm_3021` holds has that permutation's words. -/
theorem words_3021 {F : FTy → Type} [FloatOps F]
    {x : FVec F Cert.Pre_perm_3021_Kernel.S1x256x256 .bf16} {t : IVec T4 32}
    (h : Cert.Pre_perm_3021_Kernel.fn x t = fun _ => 1#1) (p : T4.Idx) : t p = BitVec.ofNat 32 (at_3021 (p 0)).val :=
  table_words t Cert.Pre_perm_3021_Kernel.lit0 ![3, 0, 2, 1] h (by decide) p

/-- The permutation `3, 1, 0, 2`. -/
def at_3102 : Equiv.Perm (Fin 4) := ofImages ![3, 1, 0, 2] (by decide)

/-- The precondition `perm_3102` has no side condition to prove. -/
instance facts_3102 : Cert.Pre_perm_3102_Kernel.Facts := ⟨⟩

/-- A table of which the precondition `perm_3102` holds has that permutation's words. -/
theorem words_3102 {F : FTy → Type} [FloatOps F]
    {x : FVec F Cert.Pre_perm_3102_Kernel.S1x256x256 .bf16} {t : IVec T4 32}
    (h : Cert.Pre_perm_3102_Kernel.fn x t = fun _ => 1#1) (p : T4.Idx) : t p = BitVec.ofNat 32 (at_3102 (p 0)).val :=
  table_words t Cert.Pre_perm_3102_Kernel.lit0 ![3, 1, 0, 2] h (by decide) p

/-- The permutation `3, 1, 2, 0`. -/
def at_3120 : Equiv.Perm (Fin 4) := ofImages ![3, 1, 2, 0] (by decide)

/-- The precondition `perm_3120` has no side condition to prove. -/
instance facts_3120 : Cert.Pre_perm_3120_Kernel.Facts := ⟨⟩

/-- A table of which the precondition `perm_3120` holds has that permutation's words. -/
theorem words_3120 {F : FTy → Type} [FloatOps F]
    {x : FVec F Cert.Pre_perm_3120_Kernel.S1x256x256 .bf16} {t : IVec T4 32}
    (h : Cert.Pre_perm_3120_Kernel.fn x t = fun _ => 1#1) (p : T4.Idx) : t p = BitVec.ofNat 32 (at_3120 (p 0)).val :=
  table_words t Cert.Pre_perm_3120_Kernel.lit0 ![3, 1, 2, 0] h (by decide) p

/-- The permutation `3, 2, 0, 1`. -/
def at_3201 : Equiv.Perm (Fin 4) := ofImages ![3, 2, 0, 1] (by decide)

/-- The precondition `perm_3201` has no side condition to prove. -/
instance facts_3201 : Cert.Pre_perm_3201_Kernel.Facts := ⟨⟩

/-- A table of which the precondition `perm_3201` holds has that permutation's words. -/
theorem words_3201 {F : FTy → Type} [FloatOps F]
    {x : FVec F Cert.Pre_perm_3201_Kernel.S1x256x256 .bf16} {t : IVec T4 32}
    (h : Cert.Pre_perm_3201_Kernel.fn x t = fun _ => 1#1) (p : T4.Idx) : t p = BitVec.ofNat 32 (at_3201 (p 0)).val :=
  table_words t Cert.Pre_perm_3201_Kernel.lit0 ![3, 2, 0, 1] h (by decide) p

/-- The permutation `3, 2, 1, 0`. -/
def at_3210 : Equiv.Perm (Fin 4) := ofImages ![3, 2, 1, 0] (by decide)

/-- The precondition `perm_3210` has no side condition to prove. -/
instance facts_3210 : Cert.Pre_perm_3210_Kernel.Facts := ⟨⟩

/-- A table of which the precondition `perm_3210` holds has that permutation's words. -/
theorem words_3210 {F : FTy → Type} [FloatOps F]
    {x : FVec F Cert.Pre_perm_3210_Kernel.S1x256x256 .bf16} {t : IVec T4 32}
    (h : Cert.Pre_perm_3210_Kernel.fn x t = fun _ => 1#1) (p : T4.Idx) : t p = BitVec.ofNat 32 (at_3210 (p 0)).val :=
  table_words t Cert.Pre_perm_3210_Kernel.lit0 ![3, 2, 1, 0] h (by decide) p

/-! ## The claims -/

/-- Every claim of the certificate, in its order: the kernel's runs, those over the extended reals, the reference's, that the
    two kernels are the same program, and that the kernel computes the reference. -/
theorem claim : Cert.Claim := ⟨Cert.Kernel.Gen.facts, Cert.KernelIdeal.Gen.facts, Cert.ReferenceIdeal.Gen.facts,
  ⟨⟩, ⟨⟩, ⟨⟩, ⟨⟩, ⟨⟩, ⟨⟩,
  ⟨⟩, ⟨⟩, ⟨⟩, ⟨⟩, ⟨⟩, ⟨⟩,
  ⟨⟩, ⟨⟩, ⟨⟩, ⟨⟩, ⟨⟩, ⟨⟩,
  ⟨⟩, ⟨⟩, ⟨⟩, ⟨⟩, ⟨⟩, ⟨⟩,
  ⟨⟩, ⟨⟩, ⟨⟩, ⟨⟩, ⟨⟩, ⟨⟩,
  ⟨⟩, ⟨⟩, ⟨⟩, ⟨⟩, ⟨⟩, ⟨⟩,
  ⟨⟩, ⟨⟩, ⟨⟩, ⟨⟩, ⟨⟩, ⟨⟩,
  ⟨⟩, ⟨⟩, ⟨⟩, ⟨⟩, ⟨⟩, ⟨⟩,
  fun m g h => kernel_frame at_0123 m g (fun c => words_0123 (h c)),
  fun m g h => kernel_frame at_0132 m g (fun c => words_0132 (h c)),
  fun m g h => kernel_frame at_0213 m g (fun c => words_0213 (h c)),
  fun m g h => kernel_frame at_0231 m g (fun c => words_0231 (h c)),
  fun m g h => kernel_frame at_0312 m g (fun c => words_0312 (h c)),
  fun m g h => kernel_frame at_0321 m g (fun c => words_0321 (h c)),
  fun m g h => kernel_frame at_1023 m g (fun c => words_1023 (h c)),
  fun m g h => kernel_frame at_1032 m g (fun c => words_1032 (h c)),
  fun m g h => kernel_frame at_1203 m g (fun c => words_1203 (h c)),
  fun m g h => kernel_frame at_1230 m g (fun c => words_1230 (h c)),
  fun m g h => kernel_frame at_1302 m g (fun c => words_1302 (h c)),
  fun m g h => kernel_frame at_1320 m g (fun c => words_1320 (h c)),
  fun m g h => kernel_frame at_2013 m g (fun c => words_2013 (h c)),
  fun m g h => kernel_frame at_2031 m g (fun c => words_2031 (h c)),
  fun m g h => kernel_frame at_2103 m g (fun c => words_2103 (h c)),
  fun m g h => kernel_frame at_2130 m g (fun c => words_2130 (h c)),
  fun m g h => kernel_frame at_2301 m g (fun c => words_2301 (h c)),
  fun m g h => kernel_frame at_2310 m g (fun c => words_2310 (h c)),
  fun m g h => kernel_frame at_3012 m g (fun c => words_3012 (h c)),
  fun m g h => kernel_frame at_3021 m g (fun c => words_3021 (h c)),
  fun m g h => kernel_frame at_3102 m g (fun c => words_3102 (h c)),
  fun m g h => kernel_frame at_3120 m g (fun c => words_3120 (h c)),
  fun m g h => kernel_frame at_3201 m g (fun c => words_3201 (h c)),
  fun m g h => kernel_frame at_3210 m g (fun c => words_3210 (h c)),
  fun m g h => ideal_frame at_0123 m g (fun c => words_0123 (h c)),
  fun m g h => ideal_frame at_0132 m g (fun c => words_0132 (h c)),
  fun m g h => ideal_frame at_0213 m g (fun c => words_0213 (h c)),
  fun m g h => ideal_frame at_0231 m g (fun c => words_0231 (h c)),
  fun m g h => ideal_frame at_0312 m g (fun c => words_0312 (h c)),
  fun m g h => ideal_frame at_0321 m g (fun c => words_0321 (h c)),
  fun m g h => ideal_frame at_1023 m g (fun c => words_1023 (h c)),
  fun m g h => ideal_frame at_1032 m g (fun c => words_1032 (h c)),
  fun m g h => ideal_frame at_1203 m g (fun c => words_1203 (h c)),
  fun m g h => ideal_frame at_1230 m g (fun c => words_1230 (h c)),
  fun m g h => ideal_frame at_1302 m g (fun c => words_1302 (h c)),
  fun m g h => ideal_frame at_1320 m g (fun c => words_1320 (h c)),
  fun m g h => ideal_frame at_2013 m g (fun c => words_2013 (h c)),
  fun m g h => ideal_frame at_2031 m g (fun c => words_2031 (h c)),
  fun m g h => ideal_frame at_2103 m g (fun c => words_2103 (h c)),
  fun m g h => ideal_frame at_2130 m g (fun c => words_2130 (h c)),
  fun m g h => ideal_frame at_2301 m g (fun c => words_2301 (h c)),
  fun m g h => ideal_frame at_2310 m g (fun c => words_2310 (h c)),
  fun m g h => ideal_frame at_3012 m g (fun c => words_3012 (h c)),
  fun m g h => ideal_frame at_3021 m g (fun c => words_3021 (h c)),
  fun m g h => ideal_frame at_3102 m g (fun c => words_3102 (h c)),
  fun m g h => ideal_frame at_3120 m g (fun c => words_3120 (h c)),
  fun m g h => ideal_frame at_3201 m g (fun c => words_3201 (h c)),
  fun m g h => ideal_frame at_3210 m g (fun c => words_3210 (h c)),
  fun m g _ => reference_frame m g,
  fun m g _ => reference_frame m g,
  fun m g _ => reference_frame m g,
  fun m g _ => reference_frame m g,
  fun m g _ => reference_frame m g,
  fun m g _ => reference_frame m g,
  fun m g _ => reference_frame m g,
  fun m g _ => reference_frame m g,
  fun m g _ => reference_frame m g,
  fun m g _ => reference_frame m g,
  fun m g _ => reference_frame m g,
  fun m g _ => reference_frame m g,
  fun m g _ => reference_frame m g,
  fun m g _ => reference_frame m g,
  fun m g _ => reference_frame m g,
  fun m g _ => reference_frame m g,
  fun m g _ => reference_frame m g,
  fun m g _ => reference_frame m g,
  fun m g _ => reference_frame m g,
  fun m g _ => reference_frame m g,
  fun m g _ => reference_frame m g,
  fun m g _ => reference_frame m g,
  fun m g _ => reference_frame m g,
  fun m g _ => reference_frame m g,
  fun m g _ => reference_frame m g,
  trivial,
  fun m g m' g' h hm => ideal_value at_0123 m g m' g' (fun c => words_0123 (h c)) hm,
  fun m g m' g' h hm => ideal_value at_0132 m g m' g' (fun c => words_0132 (h c)) hm,
  fun m g m' g' h hm => ideal_value at_0213 m g m' g' (fun c => words_0213 (h c)) hm,
  fun m g m' g' h hm => ideal_value at_0231 m g m' g' (fun c => words_0231 (h c)) hm,
  fun m g m' g' h hm => ideal_value at_0312 m g m' g' (fun c => words_0312 (h c)) hm,
  fun m g m' g' h hm => ideal_value at_0321 m g m' g' (fun c => words_0321 (h c)) hm,
  fun m g m' g' h hm => ideal_value at_1023 m g m' g' (fun c => words_1023 (h c)) hm,
  fun m g m' g' h hm => ideal_value at_1032 m g m' g' (fun c => words_1032 (h c)) hm,
  fun m g m' g' h hm => ideal_value at_1203 m g m' g' (fun c => words_1203 (h c)) hm,
  fun m g m' g' h hm => ideal_value at_1230 m g m' g' (fun c => words_1230 (h c)) hm,
  fun m g m' g' h hm => ideal_value at_1302 m g m' g' (fun c => words_1302 (h c)) hm,
  fun m g m' g' h hm => ideal_value at_1320 m g m' g' (fun c => words_1320 (h c)) hm,
  fun m g m' g' h hm => ideal_value at_2013 m g m' g' (fun c => words_2013 (h c)) hm,
  fun m g m' g' h hm => ideal_value at_2031 m g m' g' (fun c => words_2031 (h c)) hm,
  fun m g m' g' h hm => ideal_value at_2103 m g m' g' (fun c => words_2103 (h c)) hm,
  fun m g m' g' h hm => ideal_value at_2130 m g m' g' (fun c => words_2130 (h c)) hm,
  fun m g m' g' h hm => ideal_value at_2301 m g m' g' (fun c => words_2301 (h c)) hm,
  fun m g m' g' h hm => ideal_value at_2310 m g m' g' (fun c => words_2310 (h c)) hm,
  fun m g m' g' h hm => ideal_value at_3012 m g m' g' (fun c => words_3012 (h c)) hm,
  fun m g m' g' h hm => ideal_value at_3021 m g m' g' (fun c => words_3021 (h c)) hm,
  fun m g m' g' h hm => ideal_value at_3102 m g m' g' (fun c => words_3102 (h c)) hm,
  fun m g m' g' h hm => ideal_value at_3120 m g m' g' (fun c => words_3120 (h c)) hm,
  fun m g m' g' h hm => ideal_value at_3201 m g m' g' (fun c => words_3201 (h c)) hm,
  fun m g m' g' h hm => ideal_value at_3210 m g m' g' (fun c => words_3210 (h c)) hm⟩

end Cert.Proof

end
